-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S2x256x2048 : Shape := ⟨3, ![2, 256, 2048]⟩
abbrev S256x2048 : Shape := ⟨2, ![256, 2048]⟩
abbrev S2 : Shape := ⟨1, ![2]⟩
abbrev S4 : Shape := ⟨1, ![4]⟩
abbrev S_ : Shape := ⟨0, ![]⟩
abbrev S256x256 : Shape := ⟨2, ![256, 256]⟩
abbrev S1x256x2048 : Shape := ⟨3, ![1, 256, 2048]⟩

abbrev nBuf : Space → Nat
  | .hbm => 5
  | .vmem => 12
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e5m2⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S256x8192, .fp8e5m2⟩
  | .local _ .vmem, ⟨2, _⟩ => ⟨S256x8192, .f32⟩
  | .local _ .vmem, ⟨3, _⟩ => ⟨S256x8192, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c256_i32 : BitVec 32 := 256#32
  let v19 : BitVec 32 := Scalar.muli v5 c256_i32
  let v20 : Index := Scalar.indexCast v19
  let c0_13 : Index := 0#32
  ![v20.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c256_i32_26 : BitVec 32 := 256#32
  let v41 : BitVec 32 := Scalar.muli v7 c256_i32_26
  let v42 : Index := Scalar.indexCast v41
  let c0_27 : Index := 0#32
  ![v42.toNat, 0]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_44 : BitVec 32 := 1#32
  let v63 : BitVec 32 := Scalar.muli v7 c1_i32_44
  let v64 : BitVec 32 := Scalar.addi c0_i32_45 v63
  v64.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_54 : BitVec 32 := 1#32
  let v73 : BitVec 32 := Scalar.muli v7 c1_i32_54
  let v74 : BitVec 32 := Scalar.addi c0_i32_55 v73
  v74.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_64 : BitVec 32 := 1#32
  let v83 : BitVec 32 := Scalar.muli v5 c1_i32_64
  let v84 : BitVec 32 := Scalar.addi c0_i32_65 v83
  v84.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_74 : BitVec 32 := 1#32
  let v93 : BitVec 32 := Scalar.muli v5 c1_i32_74
  let v94 : BitVec 32 := Scalar.addi c0_i32_75 v93
  v94.toNat
def k0_off3 (d0 : Dev nD) (c0_i32_83 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v106 : BitVec 32 := Scalar.addi v2 c32_i32
  let c2_i32_82 : BitVec 32 := 2#32
  let v107 : BitVec 32 := Scalar.subi v106 c2_i32_82
  let v108 : BitVec 32 := Scalar.subi v107 c0_i32_83
  let c16_i32_84 : BitVec 32 := 16#32
  let v109 : BitVec 32 := Scalar.remsi v108 c16_i32_84
  let c256_i32_85 : BitVec 32 := 256#32
  let v110 : BitVec 32 := Scalar.muli v109 c256_i32_85
  let v111 : Index := Scalar.indexCast v110
  let c0_86 : Index := 0#32
  ![v111.toNat, 0]
def k0_off4 (d0 : Dev nD) (c0_i32_104 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_103 : BitVec 32 := 2#32
  let v134 : BitVec 32 := Scalar.addi v2 c2_i32_103
  let v135 : BitVec 32 := Scalar.addi v134 c0_i32_104
  let c16_i32_105 : BitVec 32 := 16#32
  let v136 : BitVec 32 := Scalar.remsi v135 c16_i32_105
  let c256_i32_106 : BitVec 32 := 256#32
  let v137 : BitVec 32 := Scalar.muli v136 c256_i32_106
  let v138 : Index := Scalar.indexCast v137
  let c0_107 : Index := 0#32
  ![v138.toNat, 0]
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_151 : BitVec 32 := 1#32
  let v185 : BitVec 32 := Scalar.muli v5 c1_i32_151
  let v186 : BitVec 32 := Scalar.addi c0_i32_152 v185
  v186.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_160 : BitVec 32 := 1#32
  let v189 : BitVec 32 := Scalar.muli v7 c1_i32_160
  let v190 : BitVec 32 := Scalar.addi c0_i32_161 v189
  v190.toNat
def k0_dev9 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_195 : BitVec 32 := 1#32
  let v224 : BitVec 32 := Scalar.muli v5 c1_i32_195
  let v225 : BitVec 32 := Scalar.addi c0_i32_196 v224
  v225.toNat
def k0_dev10 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_204 : BitVec 32 := 1#32
  let v228 : BitVec 32 := Scalar.muli v7 c1_i32_204
  let v229 : BitVec 32 := Scalar.addi c0_i32_205 v228
  v229.toNat
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_239 : BitVec 32 := 1#32
  let v263 : BitVec 32 := Scalar.muli v7 c1_i32_239
  let v264 : BitVec 32 := Scalar.addi c0_i32_240 v263
  v264.toNat
def k0_dev12 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_248 : BitVec 32 := 1#32
  let v267 : BitVec 32 := Scalar.muli v5 c1_i32_248
  let v268 : BitVec 32 := Scalar.addi c0_i32_249 v267
  v268.toNat
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_282 : BitVec 32 := 1#32
  let v302 : BitVec 32 := Scalar.muli v7 c1_i32_282
  let v303 : BitVec 32 := Scalar.addi c0_i32_283 v302
  v303.toNat
def k0_dev14 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_291 : BitVec 32 := 1#32
  let v306 : BitVec 32 := Scalar.muli v5 c1_i32_291
  let v307 : BitVec 32 := Scalar.addi c0_i32_292 v306
  v307.toNat
def k0_dev15 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_368 : BitVec 32 := 1#32
  let v395 : BitVec 32 := Scalar.muli v5 c1_i32_368
  let v396 : BitVec 32 := Scalar.addi c0_i32_369 v395
  v396.toNat
def k0_dev16 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_377 : BitVec 32 := 1#32
  let v399 : BitVec 32 := Scalar.muli v7 c1_i32_377
  let v400 : BitVec 32 := Scalar.addi c0_i32_378 v399
  v400.toNat
def k0_dev17 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_412 : BitVec 32 := 1#32
  let v434 : BitVec 32 := Scalar.muli v5 c1_i32_412
  let v435 : BitVec 32 := Scalar.addi c0_i32_413 v434
  v435.toNat
def k0_dev18 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_421 : BitVec 32 := 1#32
  let v438 : BitVec 32 := Scalar.muli v7 c1_i32_421
  let v439 : BitVec 32 := Scalar.addi c0_i32_422 v438
  v439.toNat
def k0_dev19 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_456 : BitVec 32 := 1#32
  let v473 : BitVec 32 := Scalar.muli v7 c1_i32_456
  let v474 : BitVec 32 := Scalar.addi c0_i32_457 v473
  v474.toNat
def k0_dev20 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_465 : BitVec 32 := 1#32
  let v477 : BitVec 32 := Scalar.muli v5 c1_i32_465
  let v478 : BitVec 32 := Scalar.addi c0_i32_466 v477
  v478.toNat
def k0_dev21 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_500 : BitVec 32 := 1#32
  let v512 : BitVec 32 := Scalar.muli v7 c1_i32_500
  let v513 : BitVec 32 := Scalar.addi c0_i32_501 v512
  v513.toNat
def k0_dev22 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_509 : BitVec 32 := 1#32
  let v516 : BitVec 32 := Scalar.muli v5 c1_i32_509
  let v517 : BitVec 32 := Scalar.addi c0_i32_510 v516
  v517.toNat
def k0_dev23 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_586 : BitVec 32 := 1#32
  let v605 : BitVec 32 := Scalar.muli v5 c1_i32_586
  let v606 : BitVec 32 := Scalar.addi c0_i32_587 v605
  v606.toNat
def k0_dev24 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_595 : BitVec 32 := 1#32
  let v609 : BitVec 32 := Scalar.muli v7 c1_i32_595
  let v610 : BitVec 32 := Scalar.addi c0_i32_596 v609
  v610.toNat
def k0_dev25 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_630 : BitVec 32 := 1#32
  let v644 : BitVec 32 := Scalar.muli v5 c1_i32_630
  let v645 : BitVec 32 := Scalar.addi c0_i32_631 v644
  v645.toNat
def k0_dev26 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_639 : BitVec 32 := 1#32
  let v648 : BitVec 32 := Scalar.muli v7 c1_i32_639
  let v649 : BitVec 32 := Scalar.addi c0_i32_640 v648
  v649.toNat
def k0_dev27 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_674 : BitVec 32 := 1#32
  let v683 : BitVec 32 := Scalar.muli v7 c1_i32_674
  let v684 : BitVec 32 := Scalar.addi c0_i32_675 v683
  v684.toNat
def k0_dev28 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_683 : BitVec 32 := 1#32
  let v687 : BitVec 32 := Scalar.muli v5 c1_i32_683
  let v688 : BitVec 32 := Scalar.addi c0_i32_684 v687
  v688.toNat
def k0_dev29 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_718 : BitVec 32 := 1#32
  let v722 : BitVec 32 := Scalar.muli v7 c1_i32_718
  let v723 : BitVec 32 := Scalar.addi c0_i32_719 v722
  v723.toNat
def k0_dev30 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_727 : BitVec 32 := 1#32
  let v726 : BitVec 32 := Scalar.muli v5 c1_i32_727
  let v727 : BitVec 32 := Scalar.addi c0_i32_728 v726
  v727.toNat
def k0_dev31 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_804 : BitVec 32 := 1#32
  let v815 : BitVec 32 := Scalar.muli v5 c1_i32_804
  let v816 : BitVec 32 := Scalar.addi c0_i32_805 v815
  v816.toNat
def k0_dev32 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_813 : BitVec 32 := 1#32
  let v819 : BitVec 32 := Scalar.muli v7 c1_i32_813
  let v820 : BitVec 32 := Scalar.addi c0_i32_814 v819
  v820.toNat
def k0_dev33 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_848 : BitVec 32 := 1#32
  let v854 : BitVec 32 := Scalar.muli v5 c1_i32_848
  let v855 : BitVec 32 := Scalar.addi c0_i32_849 v854
  v855.toNat
def k0_dev34 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_857 : BitVec 32 := 1#32
  let v858 : BitVec 32 := Scalar.muli v7 c1_i32_857
  let v859 : BitVec 32 := Scalar.addi c0_i32_858 v858
  v859.toNat
def k0_dev35 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_892 : BitVec 32 := 1#32
  let v893 : BitVec 32 := Scalar.muli v7 c1_i32_892
  let v894 : BitVec 32 := Scalar.addi c0_i32_893 v893
  v894.toNat
def k0_dev36 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_901 : BitVec 32 := 1#32
  let v897 : BitVec 32 := Scalar.muli v5 c1_i32_901
  let v898 : BitVec 32 := Scalar.addi c0_i32_902 v897
  v898.toNat
def k0_dev37 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_936 : BitVec 32 := 1#32
  let v932 : BitVec 32 := Scalar.muli v7 c1_i32_936
  let v933 : BitVec 32 := Scalar.addi c0_i32_937 v932
  v933.toNat
def k0_dev38 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_945 : BitVec 32 := 1#32
  let v936 : BitVec 32 := Scalar.muli v5 c1_i32_945
  let v937 : BitVec 32 := Scalar.addi c0_i32_946 v936
  v937.toNat
def k0_dev39 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1021 : BitVec 32 := 1#32
  let v1025 : BitVec 32 := Scalar.muli v5 c1_i32_1021
  let v1026 : BitVec 32 := Scalar.addi c0_i32_1022 v1025
  v1026.toNat
def k0_dev40 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1030 : BitVec 32 := 1#32
  let v1029 : BitVec 32 := Scalar.muli v7 c1_i32_1030
  let v1030 : BitVec 32 := Scalar.addi c0_i32_1031 v1029
  v1030.toNat
def k0_dev41 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1065 : BitVec 32 := 1#32
  let v1064 : BitVec 32 := Scalar.muli v5 c1_i32_1065
  let v1065 : BitVec 32 := Scalar.addi c0_i32_1066 v1064
  v1065.toNat
def k0_dev42 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1074 : BitVec 32 := 1#32
  let v1068 : BitVec 32 := Scalar.muli v7 c1_i32_1074
  let v1069 : BitVec 32 := Scalar.addi c0_i32_1075 v1068
  v1069.toNat
def k0_dev43 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1109 : BitVec 32 := 1#32
  let v1103 : BitVec 32 := Scalar.muli v7 c1_i32_1109
  let v1104 : BitVec 32 := Scalar.addi c0_i32_1110 v1103
  v1104.toNat
def k0_dev44 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1118 : BitVec 32 := 1#32
  let v1107 : BitVec 32 := Scalar.muli v5 c1_i32_1118
  let v1108 : BitVec 32 := Scalar.addi c0_i32_1119 v1107
  v1108.toNat
def k0_dev45 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1153 : BitVec 32 := 1#32
  let v1142 : BitVec 32 := Scalar.muli v7 c1_i32_1153
  let v1143 : BitVec 32 := Scalar.addi c0_i32_1154 v1142
  v1143.toNat
def k0_dev46 (d0 : Dev nD) : Nat :=
  let c0_i32_1163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1162 : BitVec 32 := 1#32
  let v1146 : BitVec 32 := Scalar.muli v5 c1_i32_1162
  let v1147 : BitVec 32 := Scalar.addi c0_i32_1163 v1146
  v1147.toNat
def k0_dev47 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1238 : BitVec 32 := 1#32
  let v1235 : BitVec 32 := Scalar.muli v5 c1_i32_1238
  let v1236 : BitVec 32 := Scalar.addi c0_i32_1239 v1235
  v1236.toNat
def k0_dev48 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1247 : BitVec 32 := 1#32
  let v1239 : BitVec 32 := Scalar.muli v7 c1_i32_1247
  let v1240 : BitVec 32 := Scalar.addi c0_i32_1248 v1239
  v1240.toNat
def k0_dev49 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1282 : BitVec 32 := 1#32
  let v1274 : BitVec 32 := Scalar.muli v5 c1_i32_1282
  let v1275 : BitVec 32 := Scalar.addi c0_i32_1283 v1274
  v1275.toNat
def k0_dev50 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1291 : BitVec 32 := 1#32
  let v1278 : BitVec 32 := Scalar.muli v7 c1_i32_1291
  let v1279 : BitVec 32 := Scalar.addi c0_i32_1292 v1278
  v1279.toNat
def k0_dev51 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1326 : BitVec 32 := 1#32
  let v1313 : BitVec 32 := Scalar.muli v7 c1_i32_1326
  let v1314 : BitVec 32 := Scalar.addi c0_i32_1327 v1313
  v1314.toNat
def k0_dev52 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1335 : BitVec 32 := 1#32
  let v1317 : BitVec 32 := Scalar.muli v5 c1_i32_1335
  let v1318 : BitVec 32 := Scalar.addi c0_i32_1336 v1317
  v1318.toNat
def k0_dev53 (d0 : Dev nD) : Nat :=
  let c0_i32_1371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1370 : BitVec 32 := 1#32
  let v1352 : BitVec 32 := Scalar.muli v7 c1_i32_1370
  let v1353 : BitVec 32 := Scalar.addi c0_i32_1371 v1352
  v1353.toNat
def k0_dev54 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1379 : BitVec 32 := 1#32
  let v1356 : BitVec 32 := Scalar.muli v5 c1_i32_1379
  let v1357 : BitVec 32 := Scalar.addi c0_i32_1380 v1356
  v1357.toNat
def k0_dev55 (d0 : Dev nD) : Nat :=
  let c0_i32_1456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1455 : BitVec 32 := 1#32
  let v1445 : BitVec 32 := Scalar.muli v5 c1_i32_1455
  let v1446 : BitVec 32 := Scalar.addi c0_i32_1456 v1445
  v1446.toNat
def k0_dev56 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1464 : BitVec 32 := 1#32
  let v1449 : BitVec 32 := Scalar.muli v7 c1_i32_1464
  let v1450 : BitVec 32 := Scalar.addi c0_i32_1465 v1449
  v1450.toNat
def k0_dev57 (d0 : Dev nD) : Nat :=
  let c0_i32_1500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1499 : BitVec 32 := 1#32
  let v1484 : BitVec 32 := Scalar.muli v5 c1_i32_1499
  let v1485 : BitVec 32 := Scalar.addi c0_i32_1500 v1484
  v1485.toNat
def k0_dev58 (d0 : Dev nD) : Nat :=
  let c0_i32_1509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1508 : BitVec 32 := 1#32
  let v1488 : BitVec 32 := Scalar.muli v7 c1_i32_1508
  let v1489 : BitVec 32 := Scalar.addi c0_i32_1509 v1488
  v1489.toNat
def k0_dev59 (d0 : Dev nD) : Nat :=
  let c0_i32_1544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1543 : BitVec 32 := 1#32
  let v1523 : BitVec 32 := Scalar.muli v7 c1_i32_1543
  let v1524 : BitVec 32 := Scalar.addi c0_i32_1544 v1523
  v1524.toNat
def k0_dev60 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1552 : BitVec 32 := 1#32
  let v1527 : BitVec 32 := Scalar.muli v5 c1_i32_1552
  let v1528 : BitVec 32 := Scalar.addi c0_i32_1553 v1527
  v1528.toNat
def k0_dev61 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1587 : BitVec 32 := 1#32
  let v1562 : BitVec 32 := Scalar.muli v7 c1_i32_1587
  let v1563 : BitVec 32 := Scalar.addi c0_i32_1588 v1562
  v1563.toNat
def k0_dev62 (d0 : Dev nD) : Nat :=
  let c0_i32_1597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1596 : BitVec 32 := 1#32
  let v1566 : BitVec 32 := Scalar.muli v5 c1_i32_1596
  let v1567 : BitVec 32 := Scalar.addi c0_i32_1597 v1566
  v1567.toNat
def k0_dev63 (d0 : Dev nD) : Nat :=
  let c0_i32_1673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1672 : BitVec 32 := 1#32
  let v1655 : BitVec 32 := Scalar.muli v5 c1_i32_1672
  let v1656 : BitVec 32 := Scalar.addi c0_i32_1673 v1655
  v1656.toNat
def k0_dev64 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1681 : BitVec 32 := 1#32
  let v1659 : BitVec 32 := Scalar.muli v7 c1_i32_1681
  let v1660 : BitVec 32 := Scalar.addi c0_i32_1682 v1659
  v1660.toNat
def k0_dev65 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1716 : BitVec 32 := 1#32
  let v1694 : BitVec 32 := Scalar.muli v5 c1_i32_1716
  let v1695 : BitVec 32 := Scalar.addi c0_i32_1717 v1694
  v1695.toNat
def k0_dev66 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1725 : BitVec 32 := 1#32
  let v1698 : BitVec 32 := Scalar.muli v7 c1_i32_1725
  let v1699 : BitVec 32 := Scalar.addi c0_i32_1726 v1698
  v1699.toNat
def k0_dev67 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1760 : BitVec 32 := 1#32
  let v1733 : BitVec 32 := Scalar.muli v7 c1_i32_1760
  let v1734 : BitVec 32 := Scalar.addi c0_i32_1761 v1733
  v1734.toNat
def k0_dev68 (d0 : Dev nD) : Nat :=
  let c0_i32_1770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1769 : BitVec 32 := 1#32
  let v1737 : BitVec 32 := Scalar.muli v5 c1_i32_1769
  let v1738 : BitVec 32 := Scalar.addi c0_i32_1770 v1737
  v1738.toNat
def k0_dev69 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1804 : BitVec 32 := 1#32
  let v1772 : BitVec 32 := Scalar.muli v7 c1_i32_1804
  let v1773 : BitVec 32 := Scalar.addi c0_i32_1805 v1772
  v1773.toNat
def k0_dev70 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1813 : BitVec 32 := 1#32
  let v1776 : BitVec 32 := Scalar.muli v5 c1_i32_1813
  let v1777 : BitVec 32 := Scalar.addi c0_i32_1814 v1776
  v1777.toNat
def k0_dev71 (d0 : Dev nD) : Nat :=
  let c0_i32_1890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1889 : BitVec 32 := 1#32
  let v1865 : BitVec 32 := Scalar.muli v5 c1_i32_1889
  let v1866 : BitVec 32 := Scalar.addi c0_i32_1890 v1865
  v1866.toNat
def k0_dev72 (d0 : Dev nD) : Nat :=
  let c0_i32_1899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1898 : BitVec 32 := 1#32
  let v1869 : BitVec 32 := Scalar.muli v7 c1_i32_1898
  let v1870 : BitVec 32 := Scalar.addi c0_i32_1899 v1869
  v1870.toNat
def k0_dev73 (d0 : Dev nD) : Nat :=
  let c0_i32_1934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1933 : BitVec 32 := 1#32
  let v1904 : BitVec 32 := Scalar.muli v5 c1_i32_1933
  let v1905 : BitVec 32 := Scalar.addi c0_i32_1934 v1904
  v1905.toNat
def k0_dev74 (d0 : Dev nD) : Nat :=
  let c0_i32_1943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1942 : BitVec 32 := 1#32
  let v1908 : BitVec 32 := Scalar.muli v7 c1_i32_1942
  let v1909 : BitVec 32 := Scalar.addi c0_i32_1943 v1908
  v1909.toNat
def k0_dev75 (d0 : Dev nD) : Nat :=
  let c0_i32_1978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1977 : BitVec 32 := 1#32
  let v1943 : BitVec 32 := Scalar.muli v7 c1_i32_1977
  let v1944 : BitVec 32 := Scalar.addi c0_i32_1978 v1943
  v1944.toNat
def k0_dev76 (d0 : Dev nD) : Nat :=
  let c0_i32_1987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1986 : BitVec 32 := 1#32
  let v1947 : BitVec 32 := Scalar.muli v5 c1_i32_1986
  let v1948 : BitVec 32 := Scalar.addi c0_i32_1987 v1947
  v1948.toNat
def k0_dev77 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2021 : BitVec 32 := 1#32
  let v1982 : BitVec 32 := Scalar.muli v7 c1_i32_2021
  let v1983 : BitVec 32 := Scalar.addi c0_i32_2022 v1982
  v1983.toNat
def k0_dev78 (d0 : Dev nD) : Nat :=
  let c0_i32_2031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2030 : BitVec 32 := 1#32
  let v1986 : BitVec 32 := Scalar.muli v5 c1_i32_2030
  let v1987 : BitVec 32 := Scalar.addi c0_i32_2031 v1986
  v1987.toNat
def k0_dev79 (d0 : Dev nD) : Nat :=
  let c0_i32_2107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2106 : BitVec 32 := 1#32
  let v2075 : BitVec 32 := Scalar.muli v5 c1_i32_2106
  let v2076 : BitVec 32 := Scalar.addi c0_i32_2107 v2075
  v2076.toNat
def k0_dev80 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2115 : BitVec 32 := 1#32
  let v2079 : BitVec 32 := Scalar.muli v7 c1_i32_2115
  let v2080 : BitVec 32 := Scalar.addi c0_i32_2116 v2079
  v2080.toNat
def k0_dev81 (d0 : Dev nD) : Nat :=
  let c0_i32_2151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2150 : BitVec 32 := 1#32
  let v2114 : BitVec 32 := Scalar.muli v5 c1_i32_2150
  let v2115 : BitVec 32 := Scalar.addi c0_i32_2151 v2114
  v2115.toNat
def k0_dev82 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2159 : BitVec 32 := 1#32
  let v2118 : BitVec 32 := Scalar.muli v7 c1_i32_2159
  let v2119 : BitVec 32 := Scalar.addi c0_i32_2160 v2118
  v2119.toNat
def k0_dev83 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2194 : BitVec 32 := 1#32
  let v2153 : BitVec 32 := Scalar.muli v7 c1_i32_2194
  let v2154 : BitVec 32 := Scalar.addi c0_i32_2195 v2153
  v2154.toNat
def k0_dev84 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2203 : BitVec 32 := 1#32
  let v2157 : BitVec 32 := Scalar.muli v5 c1_i32_2203
  let v2158 : BitVec 32 := Scalar.addi c0_i32_2204 v2157
  v2158.toNat
def k0_dev85 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2238 : BitVec 32 := 1#32
  let v2192 : BitVec 32 := Scalar.muli v7 c1_i32_2238
  let v2193 : BitVec 32 := Scalar.addi c0_i32_2239 v2192
  v2193.toNat
def k0_dev86 (d0 : Dev nD) : Nat :=
  let c0_i32_2248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2247 : BitVec 32 := 1#32
  let v2196 : BitVec 32 := Scalar.muli v5 c1_i32_2247
  let v2197 : BitVec 32 := Scalar.addi c0_i32_2248 v2196
  v2197.toNat
def k0_dev87 (d0 : Dev nD) : Nat :=
  let c0_i32_2324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2323 : BitVec 32 := 1#32
  let v2285 : BitVec 32 := Scalar.muli v5 c1_i32_2323
  let v2286 : BitVec 32 := Scalar.addi c0_i32_2324 v2285
  v2286.toNat
def k0_dev88 (d0 : Dev nD) : Nat :=
  let c0_i32_2333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2332 : BitVec 32 := 1#32
  let v2289 : BitVec 32 := Scalar.muli v7 c1_i32_2332
  let v2290 : BitVec 32 := Scalar.addi c0_i32_2333 v2289
  v2290.toNat
def k0_dev89 (d0 : Dev nD) : Nat :=
  let c0_i32_2368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2367 : BitVec 32 := 1#32
  let v2324 : BitVec 32 := Scalar.muli v5 c1_i32_2367
  let v2325 : BitVec 32 := Scalar.addi c0_i32_2368 v2324
  v2325.toNat
def k0_dev90 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2376 : BitVec 32 := 1#32
  let v2328 : BitVec 32 := Scalar.muli v7 c1_i32_2376
  let v2329 : BitVec 32 := Scalar.addi c0_i32_2377 v2328
  v2329.toNat
def k0_dev91 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2411 : BitVec 32 := 1#32
  let v2363 : BitVec 32 := Scalar.muli v7 c1_i32_2411
  let v2364 : BitVec 32 := Scalar.addi c0_i32_2412 v2363
  v2364.toNat
def k0_dev92 (d0 : Dev nD) : Nat :=
  let c0_i32_2421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2420 : BitVec 32 := 1#32
  let v2367 : BitVec 32 := Scalar.muli v5 c1_i32_2420
  let v2368 : BitVec 32 := Scalar.addi c0_i32_2421 v2367
  v2368.toNat
def k0_dev93 (d0 : Dev nD) : Nat :=
  let c0_i32_2456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2455 : BitVec 32 := 1#32
  let v2402 : BitVec 32 := Scalar.muli v7 c1_i32_2455
  let v2403 : BitVec 32 := Scalar.addi c0_i32_2456 v2402
  v2403.toNat
def k0_dev94 (d0 : Dev nD) : Nat :=
  let c0_i32_2465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2464 : BitVec 32 := 1#32
  let v2406 : BitVec 32 := Scalar.muli v5 c1_i32_2464
  let v2407 : BitVec 32 := Scalar.addi c0_i32_2465 v2406
  v2407.toNat
def k0_dev95 (d0 : Dev nD) : Nat :=
  let c0_i32_2541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2540 : BitVec 32 := 1#32
  let v2495 : BitVec 32 := Scalar.muli v5 c1_i32_2540
  let v2496 : BitVec 32 := Scalar.addi c0_i32_2541 v2495
  v2496.toNat
def k0_dev96 (d0 : Dev nD) : Nat :=
  let c0_i32_2550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2549 : BitVec 32 := 1#32
  let v2499 : BitVec 32 := Scalar.muli v7 c1_i32_2549
  let v2500 : BitVec 32 := Scalar.addi c0_i32_2550 v2499
  v2500.toNat
def k0_dev97 (d0 : Dev nD) : Nat :=
  let c0_i32_2585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2584 : BitVec 32 := 1#32
  let v2534 : BitVec 32 := Scalar.muli v5 c1_i32_2584
  let v2535 : BitVec 32 := Scalar.addi c0_i32_2585 v2534
  v2535.toNat
def k0_dev98 (d0 : Dev nD) : Nat :=
  let c0_i32_2594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2593 : BitVec 32 := 1#32
  let v2538 : BitVec 32 := Scalar.muli v7 c1_i32_2593
  let v2539 : BitVec 32 := Scalar.addi c0_i32_2594 v2538
  v2539.toNat
def k0_dev99 (d0 : Dev nD) : Nat :=
  let c0_i32_2629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2628 : BitVec 32 := 1#32
  let v2573 : BitVec 32 := Scalar.muli v7 c1_i32_2628
  let v2574 : BitVec 32 := Scalar.addi c0_i32_2629 v2573
  v2574.toNat
def k0_dev100 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2637 : BitVec 32 := 1#32
  let v2577 : BitVec 32 := Scalar.muli v5 c1_i32_2637
  let v2578 : BitVec 32 := Scalar.addi c0_i32_2638 v2577
  v2578.toNat
def k0_dev101 (d0 : Dev nD) : Nat :=
  let c0_i32_2673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2672 : BitVec 32 := 1#32
  let v2612 : BitVec 32 := Scalar.muli v7 c1_i32_2672
  let v2613 : BitVec 32 := Scalar.addi c0_i32_2673 v2612
  v2613.toNat
def k0_dev102 (d0 : Dev nD) : Nat :=
  let c0_i32_2682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2681 : BitVec 32 := 1#32
  let v2616 : BitVec 32 := Scalar.muli v5 c1_i32_2681
  let v2617 : BitVec 32 := Scalar.addi c0_i32_2682 v2616
  v2617.toNat
def k0_dev103 (d0 : Dev nD) : Nat :=
  let c0_i32_2758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2757 : BitVec 32 := 1#32
  let v2705 : BitVec 32 := Scalar.muli v5 c1_i32_2757
  let v2706 : BitVec 32 := Scalar.addi c0_i32_2758 v2705
  v2706.toNat
def k0_dev104 (d0 : Dev nD) : Nat :=
  let c0_i32_2767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2766 : BitVec 32 := 1#32
  let v2709 : BitVec 32 := Scalar.muli v7 c1_i32_2766
  let v2710 : BitVec 32 := Scalar.addi c0_i32_2767 v2709
  v2710.toNat
def k0_dev105 (d0 : Dev nD) : Nat :=
  let c0_i32_2802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2801 : BitVec 32 := 1#32
  let v2744 : BitVec 32 := Scalar.muli v5 c1_i32_2801
  let v2745 : BitVec 32 := Scalar.addi c0_i32_2802 v2744
  v2745.toNat
def k0_dev106 (d0 : Dev nD) : Nat :=
  let c0_i32_2811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2810 : BitVec 32 := 1#32
  let v2748 : BitVec 32 := Scalar.muli v7 c1_i32_2810
  let v2749 : BitVec 32 := Scalar.addi c0_i32_2811 v2748
  v2749.toNat
def k0_dev107 (d0 : Dev nD) : Nat :=
  let c0_i32_2846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2845 : BitVec 32 := 1#32
  let v2783 : BitVec 32 := Scalar.muli v7 c1_i32_2845
  let v2784 : BitVec 32 := Scalar.addi c0_i32_2846 v2783
  v2784.toNat
def k0_dev108 (d0 : Dev nD) : Nat :=
  let c0_i32_2855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2854 : BitVec 32 := 1#32
  let v2787 : BitVec 32 := Scalar.muli v5 c1_i32_2854
  let v2788 : BitVec 32 := Scalar.addi c0_i32_2855 v2787
  v2788.toNat
def k0_dev109 (d0 : Dev nD) : Nat :=
  let c0_i32_2890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2889 : BitVec 32 := 1#32
  let v2822 : BitVec 32 := Scalar.muli v7 c1_i32_2889
  let v2823 : BitVec 32 := Scalar.addi c0_i32_2890 v2822
  v2823.toNat
def k0_dev110 (d0 : Dev nD) : Nat :=
  let c0_i32_2899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2898 : BitVec 32 := 1#32
  let v2826 : BitVec 32 := Scalar.muli v5 c1_i32_2898
  let v2827 : BitVec 32 := Scalar.addi c0_i32_2899 v2826
  v2827.toNat
def k0_dev111 (d0 : Dev nD) : Nat :=
  let c0_i32_2975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2974 : BitVec 32 := 1#32
  let v2915 : BitVec 32 := Scalar.muli v5 c1_i32_2974
  let v2916 : BitVec 32 := Scalar.addi c0_i32_2975 v2915
  v2916.toNat
def k0_dev112 (d0 : Dev nD) : Nat :=
  let c0_i32_2984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2983 : BitVec 32 := 1#32
  let v2919 : BitVec 32 := Scalar.muli v7 c1_i32_2983
  let v2920 : BitVec 32 := Scalar.addi c0_i32_2984 v2919
  v2920.toNat
def k0_dev113 (d0 : Dev nD) : Nat :=
  let c0_i32_3019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3018 : BitVec 32 := 1#32
  let v2954 : BitVec 32 := Scalar.muli v5 c1_i32_3018
  let v2955 : BitVec 32 := Scalar.addi c0_i32_3019 v2954
  v2955.toNat
def k0_dev114 (d0 : Dev nD) : Nat :=
  let c0_i32_3028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3027 : BitVec 32 := 1#32
  let v2958 : BitVec 32 := Scalar.muli v7 c1_i32_3027
  let v2959 : BitVec 32 := Scalar.addi c0_i32_3028 v2958
  v2959.toNat
def k0_dev115 (d0 : Dev nD) : Nat :=
  let c0_i32_3063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3062 : BitVec 32 := 1#32
  let v2993 : BitVec 32 := Scalar.muli v7 c1_i32_3062
  let v2994 : BitVec 32 := Scalar.addi c0_i32_3063 v2993
  v2994.toNat
def k0_dev116 (d0 : Dev nD) : Nat :=
  let c0_i32_3072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3071 : BitVec 32 := 1#32
  let v2997 : BitVec 32 := Scalar.muli v5 c1_i32_3071
  let v2998 : BitVec 32 := Scalar.addi c0_i32_3072 v2997
  v2998.toNat
def k0_dev117 (d0 : Dev nD) : Nat :=
  let c0_i32_3107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3106 : BitVec 32 := 1#32
  let v3032 : BitVec 32 := Scalar.muli v7 c1_i32_3106
  let v3033 : BitVec 32 := Scalar.addi c0_i32_3107 v3032
  v3033.toNat
def k0_dev118 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3115 : BitVec 32 := 1#32
  let v3036 : BitVec 32 := Scalar.muli v5 c1_i32_3115
  let v3037 : BitVec 32 := Scalar.addi c0_i32_3116 v3036
  v3037.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel's body written by lane and step: four lanes, each with its own two-slot buffer, partial
   buffer and semaphores, fifteen steps per lane, and the printed body as their sequence. -/
module

public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Launch

@[expose] public section

set_option maxRecDepth 16384

noncomputable section

namespace Cert.LaneProof

open Cert.KernelIdeal Cert.KernelIdeal.Gen
open Idealize.ShloMosaic Idealize.SL.Sem

variable {F : FTy → Type} [FloatOps F]

variable (F) in
/-- The body's programs. -/
abbrev Pg := Prog (TpuEff nD τ sig (Elt F) Λ₀ .tc)

/-! ## A lane's buffers and semaphores -/

/-- A lane's two-slot communication buffer. -/
def commM : Fin 4 → Memref sig .tc .vmem S2x256x2048 .bf16
  | 0 => Memref.whole cc0_scratch1
  | 1 => Memref.whole cc0_scratch2
  | 2 => Memref.whole cc0_scratch3
  | 3 => Memref.whole cc0_scratch4
/-- It is a whole buffer. -/
theorem commW : ∀ l : Fin 4, (commM l).IsWhole
  | 0 => Memref.isWhole_whole _
  | 1 => Memref.isWhole_whole _
  | 2 => Memref.isWhole_whole _
  | 3 => Memref.isWhole_whole _
/-- A lane's buffer for the device's own partial product. -/
def pbM : Fin 4 → Memref sig .tc .vmem S256x2048 .f32
  | 0 => Memref.whole cc0_scratch5
  | 1 => Memref.whole cc0_scratch6
  | 2 => Memref.whole cc0_scratch7
  | 3 => Memref.whole cc0_scratch8
/-- The widened weights. -/
abbrev wbfM : Memref sig .tc .vmem S256x8192 .bf16 := Memref.whole cc0_scratch0
theorem wbfW : wbfM.IsWhole := Memref.isWhole_whole _
/-- A lane's two send semaphores. -/
def ssA : Fin 4 → DmaSems sig S2
  | 0 => cc0_scratch9 | 1 => cc0_scratch11 | 2 => cc0_scratch13 | 3 => cc0_scratch15
/-- A lane's two receive semaphores. -/
def rsA : Fin 4 → DmaSems sig S2
  | 0 => cc0_scratch10 | 1 => cc0_scratch12 | 2 => cc0_scratch14 | 3 => cc0_scratch16

theorem inbSlot : ∀ p : Fin 2, ∀ a, (![p.val, 0, 0] : Fin 3 → Nat) a + S1x256x2048.size a ≤ S2x256x2048.size a
  | 0 => inb_S2x256x2048_S1x256x2048_0_0_0
  | 1 => inb_S2x256x2048_S1x256x2048_1_0_0
/-- Slot `p` of a two-slot buffer, as a rectangle. -/
abbrev slotR (p : Fin 2) : Rect S2x256x2048 := Rect.unit (s := S2x256x2048) ![p.val, 0, 0] S1x256x2048.size (inbSlot p)
theorem wordsSlot : ∀ p : Fin 2, (slotR p).WholeWords (EltTy.packing .bf16)
  | 0 => wordsbf16_S2x256x2048_S1x256x2048_0_0_0
  | 1 => wordsbf16_S2x256x2048_S1x256x2048_1_0_0
theorem packedSlot : ∀ p : Fin 2, (slotR p).PackedRows (EltTy.packing .bf16)
  | 0 => packedbf16_S2x256x2048_S1x256x2048_0_0_0
  | 1 => packedbf16_S2x256x2048_S1x256x2048_1_0_0
theorem inbSem : ∀ p : Fin 2, ∀ a, (![p.val] : Fin 1 → Nat) a + S1.size a ≤ S2.size a
  | 0 => inb_S2_S1_0
  | 1 => inb_S2_S1_1
theorem inbCr : ∀ l : Fin 4, ∀ a, (![l.val] : Fin 1 → Nat) a + S1.size a ≤ S4.size a
  | 0 => inb_S4_S1_0
  | 1 => inb_S4_S1_1
  | 2 => inb_S4_S1_2
  | 3 => inb_S4_S1_3
theorem inbCol : ∀ l : Fin 4, ∀ a, (![0, 2048 * l.val] : Fin 2 → Nat) a + S256x2048.size a ≤ S256x8192.size a
  | 0 => inb_S256x8192_S256x2048_0_0
  | 1 => inb_S256x8192_S256x2048_0_2048
  | 2 => inb_S256x8192_S256x2048_0_4096
  | 3 => inb_S256x8192_S256x2048_0_6144
/-- A lane's columns of the weights and of the result. -/
abbrev colR (l : Fin 4) : Rect S256x8192 := Rect.unit (s := S256x8192) ![0, 2048 * l.val] S256x2048.size (inbCol l)
/-- A partial buffer as a rectangle. -/
abbrev pbR : Rect S256x2048 := Rect.unit (s := S256x2048) ![0, 0] S256x2048.size inb_S256x2048_S256x2048_0_0

/-- Slot `p` of a lane's buffer, as the transfers name it. -/
abbrev slotM (l : Fin 4) (p : Fin 2) : Memref sig .tc .vmem S256x2048 .bf16 :=
  ((commM l).slice (slotR p) (fun _ => rfl)).squeeze S256x2048 squeezes_S1x256x2048_S256x2048
theorem slotWord (l : Fin 4) (p : Fin 2) : (slotM l p).view.WordExact :=
  ((commW l).wordExact_slice rfl _ (wordsSlot p)).reshape _ _
/-- A lane's send semaphore of parity `p`. -/
abbrev ssS (l : Fin 4) (p : Fin 2) : DmaSem sig :=
  (((ssA l).slice (Rect.unit (s := S2) ![p.val] S1.size (inbSem p))).squeeze S_ squeezes_S1_S_).sem
/-- A lane's receive semaphore of parity `p`. -/
abbrev rsS (l : Fin 4) (p : Fin 2) : DmaSem sig :=
  (((rsA l).slice (Rect.unit (s := S2) ![p.val] S1.size (inbSem p))).squeeze S_ squeezes_S1_S_).sem
/-- A lane's credit semaphore. -/
abbrev crS (l : Fin 4) : Sem sig :=
  ((cc0_scratch17.slice (Rect.unit (s := S4) ![l.val] S1.size (inbCr l))).squeeze S_ squeezes_S1_S_).sem
/-- The barrier semaphore. -/
abbrev baS : Sem sig := (SemArray.scalar (sig.barrier 0 rfl) : Sems sig S_).sem

/-- A step's parity: the slot it sends from. -/
abbrev par (t : ℕ) : Fin 2 := ⟨t % 2, Nat.mod_lt t (by decide)⟩
/-- The left neighbour, as the kernel computes it. -/
abbrev lfD (d : Dev nD) : Dev nD := ⟨k0_dev1 d, k0_dev1_lt d⟩
/-- The right neighbour. -/
abbrev rtD (d : Dev nD) : Dev nD := ⟨k0_dev2 d, k0_dev2_lt d⟩
/-- Where a lane sends: lanes 0 and 1 to the right, lanes 2 and 3 to the left. -/
def dnD : Fin 4 → Dev nD → Dev nD
  | 0, d => rtD d | 1, d => rtD d | 2, d => lfD d | 3, d => lfD d
/-- Where a lane receives from. -/
def upD : Fin 4 → Dev nD → Dev nD
  | 0, d => lfD d | 1, d => lfD d | 2, d => rtD d | 3, d => rtD d
/-- The row offset of the chunk a lane starts from: its upstream neighbour's. -/
def seedOff : Fin 4 → Dev nD → Fin 2 → Nat
  | 0, d => k0_off1 d | 1, d => k0_off1 d | 2, d => k0_off2 d | 3, d => k0_off2 d
theorem seedInb : ∀ (l : Fin 4) (d : Dev nD), ∀ a, seedOff l d a + S256x256.size a ≤ S4096x256.size a
  | 0, d => k0_off1_inb d | 1, d => k0_off1_inb d | 2, d => k0_off2_inb d | 3, d => k0_off2_inb d
/-- The row offset of the chunk arriving at step `t`. -/
def stepOff : Fin 4 → ℕ → Dev nD → Fin 2 → Nat
  | 0, t, d => k0_off3 d (BitVec.ofNat 32 t) | 1, t, d => k0_off3 d (BitVec.ofNat 32 t)
  | 2, t, d => k0_off4 d (BitVec.ofNat 32 t) | 3, t, d => k0_off4 d (BitVec.ofNat 32 t)
theorem stepInb : ∀ (l : Fin 4) (t : Fin 15) (d : Dev nD), ∀ a, stepOff l t.val d a + S256x256.size a ≤ S4096x256.size a
  | 0, t, d => k0_off3_inb d t | 1, t, d => k0_off3_inb d t | 2, t, d => k0_off4_inb d t | 3, t, d => k0_off4_inb d t

/-! ## The pieces of the body -/

section Pieces

variable (x : Memref sig .tc .vmem S4096x256 .fp8e4m3) (w : Memref sig .tc .vmem S256x8192 .fp8e5m2)
variable (sx sy : Memref sig .tc .smem S1 .f32) (o : Memref sig .tc .vmem S256x8192 .f32)

/-- The handshake with both neighbours. -/
def handshake : Pg F (Dev nD) := do
  let d ← Prog.lift .deviceId
  semSignalWord (lfD d) baS 1#32
  semSignalWord (rtD d) baS 1#32
  semWaitWord baS 2#32
  pure d

/-- The weights widened into the scratch. -/
def widen : Pg F PUnit := do
  let v : Vec F S256x8192 .fp8e5m2 ← Prog.lift (.load w (Rect.unit (s := S256x8192) ![0, 0] S256x8192.size inb_S256x8192_S256x8192_0_0).toLoadRect (View.loadsAt_vmem h_S256x8192))
  let _v : Vec F S256x8192 .bf16 ← Prog.lift (.load wbfM (Rect.unit (s := S256x8192) ![0, 0] S256x8192.size inb_S256x8192_S256x8192_0_0).toLoadRect (View.loadsAt_vmem h_S256x8192))
  Prog.lift (.store wbfM (Rect.unit (s := S256x8192) ![0, 0] S256x8192.size inb_S256x8192_S256x8192_0_0) (k0_pay2 v) Finset.univ (View.stores_vmem h_S256x8192 (wbfW.storeExact_slice rfl _ packedbf16_S256x8192_S256x8192_0_0) (fun _ => rfl)) (.inl rfl))

/-- A lane's first sum, into slot 0. -/
def seed (l : Fin 4) (d : Dev nD) : Pg F PUnit := do
  let v : Vec F S256x256 .fp8e4m3 ← Prog.lift (.load x (Rect.unit (s := S4096x256) (seedOff l d) S256x256.size (seedInb l d)).toLoadRect (View.loadsAt_vmem h_S256x256))
  let u : Vec F S256x2048 .bf16 ← Prog.lift (.load wbfM (colR l).toLoadRect (View.loadsAt_vmem h_S256x2048))
  let _v : Vec F S1x256x2048 .bf16 ← Prog.lift (.load (commM l) (slotR 0).toLoadRect (View.loadsAt_vmem h_S1x256x2048))
  Prog.lift (.store (commM l) (slotR 0) (k0_pay5 v u) Finset.univ (View.stores_vmem h_S1x256x2048 ((commW l).storeExact_slice rfl _ (packedSlot 0)) (fun _ => rfl)) (.inl rfl))

/-- A lane's transfer of step `t`: its slot of the step's parity into the other slot of the device downstream. -/
def send (l : Fin 4) (t : ℕ) (d : Dev nD) : Pg F PUnit :=
  Prog.lift (.enqueueDma (slotM l (par t)) (.remote (Dev.tc (dnD l d)) (slotM l (par (t + 1))) (.dma (ssS l (par t)))) (.dma (rsS l (par (t + 1)))) (slotWord l _) (slotWord l _) ⟨⟨rfl, Or.inl rfl⟩, trivial⟩)

/-- The product of the two scales. -/
def scales : Pg F (F .f32) := do
  let v : Elt F .f32 ← smemLoad sx (Rect.unit (s := S1) ![0] S1.size inb_S1_S1_0) numel1_S1 rfl
  let u : Elt F .f32 ← smemLoad sy (Rect.unit (s := S1) ![0] S1.size inb_S1_S1_0) numel1_S1 rfl
  pure (k0_pay9 v u)

/-- A lane's partial product of step `t`, into its partial buffer. -/
def partial' (l : Fin 4) (t : Fin 15) (d : Dev nD) : Pg F PUnit := do
  let v : Vec F S256x256 .fp8e4m3 ← Prog.lift (.load x (Rect.unit (s := S4096x256) (stepOff l t.val d) S256x256.size (stepInb l t d)).toLoadRect (View.loadsAt_vmem h_S256x256))
  let u : Vec F S256x2048 .bf16 ← Prog.lift (.load wbfM (colR l).toLoadRect (View.loadsAt_vmem h_S256x2048))
  let _v : Vec F S256x2048 .f32 ← Prog.lift (.load (pbM l) pbR.toLoadRect (View.loadsAt_vmem h_S256x2048))
  Prog.lift (.store (pbM l) pbR (k0_pay10 v u) Finset.univ (View.stores_vmem_bits_univ h_S256x2048 rfl) (.inl rfl))

/-- The two waits of step `t`: for the slot sent from, then for the slot received. -/
def waits2 (l : Fin 4) (t : ℕ) : Pg F PUnit := do
  Prog.lift (.waitDma2 (ssS l (par t)) (slotM l (par (t + 1))) (slotM l (par t)) (slotWord l _) (slotWord l _))
  Prog.lift (.waitDma2 (rsS l (par (t + 1))) (slotM l (par t)) (slotM l (par (t + 1))) (slotWord l _) (slotWord l _))

/-- The received sum plus the partial product, in the received slot. -/
def accum (l : Fin 4) (t : ℕ) : Pg F PUnit := do
  let v : Vec F S1x256x2048 .bf16 ← Prog.lift (.load (commM l) (slotR (par (t + 1))).toLoadRect (View.loadsAt_vmem h_S1x256x2048))
  let u : Vec F S256x2048 .f32 ← Prog.lift (.load (pbM l) pbR.toLoadRect (View.loadsAt_vmem h_S256x2048))
  let _v : Vec F S1x256x2048 .bf16 ← Prog.lift (.load (commM l) (slotR (par (t + 1))).toLoadRect (View.loadsAt_vmem h_S1x256x2048))
  Prog.lift (.store (commM l) (slotR (par (t + 1))) (k0_pay20 v u) Finset.univ (View.stores_vmem h_S1x256x2048 ((commW l).storeExact_slice rfl _ (packedSlot _)) (fun _ => rfl)) (.inl rfl))

/-- The credit given upstream and the credit awaited from downstream. -/
def credit (l : Fin 4) (d : Dev nD) : Pg F PUnit := do
  semSignalWord (upD l d) (crS l) 1#32
  semWaitWord (crS l) 1#32

/-- A lane's turn in a step before the last. -/
def turn (l : Fin 4) (t : ℕ) (d : Dev nD) : Pg F PUnit := do
  waits2 (F := F) l t
  accum (F := F) l t
  credit (F := F) l d
  send (F := F) l (t + 1) d

/-- A lane's turn in the last step: the finished columns of the result. -/
def lastTurn (l : Fin 4) (a : F .f32) : Pg F PUnit := do
  waits2 (F := F) l 14
  let v : Vec F S1x256x2048 .bf16 ← Prog.lift (.load (commM l) (slotR 1).toLoadRect (View.loadsAt_vmem h_S1x256x2048))
  let u : Vec F S256x2048 .f32 ← Prog.lift (.load (pbM l) pbR.toLoadRect (View.loadsAt_vmem h_S256x2048))
  let _v : Vec F S256x2048 .f32 ← Prog.lift (.load o (colR l).toLoadRect (View.loadsAt_vmem h_S256x2048))
  Prog.lift (.store o (colR l) (k0_pay151 a v u) Finset.univ (View.stores_vmem_bits_univ h_S256x2048 rfl) (.inl rfl))

/-- The four partial products of a step. -/
def partials (t : Fin 15) (d : Dev nD) : Pg F PUnit := do
  partial' (F := F) x 0 t d
  partial' (F := F) x 1 t d
  partial' (F := F) x 2 t d
  partial' (F := F) x 3 t d

/-- A step before the last. -/
def step (t : Fin 15) (d : Dev nD) : Pg F PUnit := do
  partials (F := F) x t d
  turn (F := F) 0 t.val d
  turn (F := F) 1 t.val d
  turn (F := F) 2 t.val d
  turn (F := F) 3 t.val d

/-- The last step. -/
def lastStep (d : Dev nD) (a : F .f32) : Pg F PUnit := do
  partials (F := F) x 14 d
  lastTurn (F := F) o 0 a
  lastTurn (F := F) o 1 a
  lastTurn (F := F) o 2 a
  lastTurn (F := F) o 3 a

/-- Steps `0 … n - 1`, then the rest. -/
def steps (d : Dev nD) (rest : Pg F PUnit) : (n : ℕ) → n ≤ 15 → Pg F PUnit
  | 0, _ => rest
  | n + 1, h => do
    step (F := F) x ⟨14 - n.succ, by omega⟩ d
    steps d rest n (by omega)

/-- What comes between the handshake and the steps. -/
def opening (d : Dev nD) : Pg F (F .f32) := do
  widen (F := F) w
  seed (F := F) x 0 d
  seed (F := F) x 1 d
  seed (F := F) x 2 d
  seed (F := F) x 3 d
  send (F := F) 0 0 d
  send (F := F) 1 0 d
  send (F := F) 2 0 d
  send (F := F) 3 0 d
  scales (F := F) sx sy

/-- The body by lane and step. -/
def body : Pg F PUnit := do
  let d ← handshake (F := F)
  let a ← opening (F := F) x w sx sy d
  steps (F := F) x d (lastStep (F := F) x o d a) 14 (by decide)

end Pieces

end Cert.LaneProof

end
-- ==== Proof.Common.lean ====
/- The protocol of the lanes: the resource algebra, the ring of sixteen devices, the cells, what each
   transfer carries, and the schedule of the cells' rounds. -/
module

public import proofs.«01_k».proof.Proof.Prog
public import Idealize.ShloMosaic.Lib.Pipeline.Launch
public import Idealize.ShloMosaic.Lib.Pipeline.Kit
public import Idealize.ShloMosaic.Lib.Tactic

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the lanes' (duties `Bool`); a wait's index is its step -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The ring -/

theorem lf_rt (c : Dev nD) : lfD (rtD c) = c := by revert c; decide +kernel
theorem rt_lf (c : Dev nD) : rtD (lfD c) = c := by revert c; decide +kernel
theorem up_dn : ∀ (l : Fin 4) (c : Dev nD), upD l (dnD l c) = c
  | 0, c => lf_rt c | 1, c => lf_rt c | 2, c => rt_lf c | 3, c => rt_lf c
theorem dn_up : ∀ (l : Fin 4) (c : Dev nD), dnD l (upD l c) = c
  | 0, c => rt_lf c | 1, c => rt_lf c | 2, c => lf_rt c | 3, c => lf_rt c
/-- A lane's ring, downstream. -/
def ringE (l : Fin 4) : Dev nD ≃ Dev nD := ⟨dnD l, upD l, up_dn l, dn_up l⟩
/-- The ring, to the right. -/
def rightE : Dev nD ≃ Dev nD := ⟨rtD, lfD, lf_rt, rt_lf⟩

/-! ## The cells -/

/-- What a semaphore of the lanes is for. -/
inductive Kd where
  | bar
  | cred (l : Fin 4)
  | send (l : Fin 4) (p : Fin 2)
  | recv (l : Fin 4) (p : Fin 2)
  | other
deriving DecidableEq

/-- The use of each semaphore of a device. -/
def kind : SemLoc sig → Kd
  | .reg s => if h : s.val < 4 then .cred ⟨s.val, h⟩ else .bar
  | .dma q => if h : q.val < 5 then .other else
      if (q.val - 5) % 4 < 2 then .send ⟨(q.val - 5) / 4 % 4, Nat.mod_lt _ (by decide)⟩ ⟨(q.val - 5) % 2, Nat.mod_lt _ (by decide)⟩
      else .recv ⟨(q.val - 5) / 4 % 4, Nat.mod_lt _ (by decide)⟩ ⟨(q.val - 5) % 2, Nat.mod_lt _ (by decide)⟩

theorem kind_bar : kind (.reg baS) = .bar := by decide +kernel
theorem kind_cr : ∀ l, kind (.reg (crS l)) = .cred l := by decide +kernel
theorem kind_ss : ∀ l p, kind (.dma (ssS l p)) = .send l p := by decide +kernel
theorem kind_rs : ∀ l p, kind (.dma (rsS l p)) = .recv l p := by decide +kernel

abbrev barCell (c : Dev nD) : GSem nD τ sig := ((c : Thread nD τ), .reg baS)
abbrev crCell (l : Fin 4) (c : Dev nD) : GSem nD τ sig := ((c : Thread nD τ), .reg (crS l))
abbrev ssCell (l : Fin 4) (p : Fin 2) (c : Dev nD) : GSem nD τ sig := ((c : Thread nD τ), .dma (ssS l p))
abbrev rsCell (l : Fin 4) (p : Fin 2) (c : Dev nD) : GSem nD τ sig := ((c : Thread nD τ), .dma (rsS l p))

/-- The credit of one slot's transfer. -/
abbrev NN (l : Fin 4) (p : Fin 2) : ℕ := (slotM l p).view.dmaCredit
/-- The credit every transfer of the kernel carries. -/
abbrev N : ℕ := (slotM 0 0).view.dmaCredit
theorem NN_eq (l : Fin 4) (p : Fin 2) : (slotM l p).view.dmaCredit = N := by fin_cases l <;> fin_cases p <;> rfl
theorem N_pos : 0 < N := View.dmaCredit_pos _ (by decide)

/-! ## Contents -/

/-- Device `c`'s staged columns of `x`. -/
def xstg (c : Dev nD) : (cc0_stg0_0 : Ref sig .tc).ty.Contents (Elt F) :=
  (win0_0.blk (0 : Fin 1)).view.read (Elt F) (m ((c : Thread nD τ).loc main_arg0))
/-- Device `c`'s staged rows of `w`. -/
def wstg (c : Dev nD) : (cc0_stg1_0 : Ref sig .tc).ty.Contents (Elt F) :=
  (win0_1.blk (0 : Fin 1)).view.read (Elt F) (m ((c : Thread nD τ).loc main_arg1))
/-- Device `c`'s staged scales. -/
def sxstg (c : Dev nD) : (cc0_stg2_0 : Ref sig .tc).ty.Contents (Elt F) :=
  (win0_2.blk (0 : Fin 1)).view.read (Elt F) (m ((c : Thread nD τ).loc main_arg2))
def systg (c : Dev nD) : (cc0_stg3_0 : Ref sig .tc).ty.Contents (Elt F) :=
  (win0_3.blk (0 : Fin 1)).view.read (Elt F) (m ((c : Thread nD τ).loc main_arg3))

/-- A step as the partial products name it. -/
abbrev f15 (t : ℕ) : Fin 15 := ⟨t % 15, Nat.mod_lt t (by decide)⟩
theorem f15_eq (t : Fin 15) : f15 t.val = t := Fin.ext (Nat.mod_eq_of_lt t.isLt)

/-- The widened weights of device `c`. -/
def wbfV (c : Dev nD) : (cc0_scratch0 : Ref sig .tc).ty.Contents (Elt F) := k0_pay2 (wstg m c)
/-- A lane's columns of them. -/
def wcolV (l : Fin 4) (c : Dev nD) : Vec F S256x2048 .bf16 := wbfM.view.readAt (Elt F) (colR l).toLoadRect (wbfV m c)
/-- The chunk of `x` a lane starts from. -/
def seedX (l : Fin 4) (c : Dev nD) : Vec F S256x256 .fp8e4m3 :=
  (Memref.whole cc0_stg0_0 : Memref sig .tc .vmem S4096x256 .fp8e4m3).view.readAt (Elt F)
    (Rect.unit (s := S4096x256) (seedOff l c) S256x256.size (seedInb l c)).toLoadRect (xstg m c)
/-- The chunk of `x` a lane multiplies at step `t`. -/
def stepX (l : Fin 4) (t : Fin 15) (c : Dev nD) : Vec F S256x256 .fp8e4m3 :=
  (Memref.whole cc0_stg0_0 : Memref sig .tc .vmem S4096x256 .fp8e4m3).view.readAt (Elt F)
    (Rect.unit (s := S4096x256) (stepOff l t.val c) S256x256.size (stepInb l t c)).toLoadRect (xstg m c)
/-- The partial product of step `t`. -/
def partV (l : Fin 4) (t : Fin 15) (c : Dev nD) : Vec F S256x2048 .f32 := k0_pay10 (stepX m l t c) (wcolV m l c)

/-- One slot's contents without its leading axis. -/
def flat {e : EltTy} (v : Vec F S1x256x2048 e) : Vec F S256x2048 e := shapeCast S256x2048 v shapeCasts_S1x256x2048_S256x2048
/-- The same with the axis put back. -/
def unflat {e : EltTy} (v : Vec F S256x2048 e) : Vec F S1x256x2048 e := shapeCast S1x256x2048 v shapeCasts_S256x2048_S1x256x2048

/-- What device `c` sends on lane `l` at step `t`. -/
def sentV (l : Fin 4) : ℕ → Dev nD → Vec F S256x2048 .bf16
  | 0, c => flat (k0_pay5 (seedX m l c) (wcolV m l c))
  | t + 1, c => flat (k0_pay20 (unflat (sentV l t (upD l c))) (partV m l (f15 t) c))

/-! ## Slots -/

/-- A lane's slot `p` on device `c`, holding `V`. -/
def slotC (l : Fin 4) (p : Fin 2) (c : Dev nD) (V : Vec F S256x2048 .bf16) : sProp 𝕄 :=
  owns (c : Thread nD τ) (slotM l p) fullShare V
/-- The slot, holding anything. -/
def slotAny (l : Fin 4) (p : Fin 2) (c : Dev nD) : sProp 𝕄 := iprop(∃ V, slotC (F := F) l p c V)

omit [FloatOps F] in
instance slotC_storable (l : Fin 4) (p : Fin 2) (c : Dev nD) (V) : BI.Storable (upEmb : UEmb _ 𝕄) (slotC (F := F) l p c V) := by
  unfold slotC; infer_instance
omit [FloatOps F] in
instance slotAny_storable (l : Fin 4) (p : Fin 2) (c : Dev nD) : BI.Storable (upEmb : UEmb _ 𝕄) (slotAny (F := F) l p c) := by
  unfold slotAny; infer_instance

/-! ## The schedule -/

/-- What a neighbour's barrier signal hands `c`: the second slot of the two lanes that send to that neighbour
    (`true`: the right one, `false`: the left one). -/
def barPay (d : Bool) (c : Dev nD) : sProp 𝕄 :=
  if d then iprop(slotAny (F := F) 0 1 (dnD 0 c) ∗ slotAny (F := F) 1 1 (dnD 1 c))
  else iprop(slotAny (F := F) 2 1 (dnD 2 c) ∗ slotAny (F := F) 3 1 (dnD 3 c))
/-- What the credit of step `t` hands `c`: the slot downstream that the next transfer fills, and that its receive
    cell has come to that transfer's round. -/
def credPay (l : Fin 4) (t : ℕ) (c : Dev nD) : sProp 𝕄 :=
  iprop(slotAny (F := F) l (par t) (dnD l c) ∗ reached ER (rsCell l (par t) (dnD l c)) ((t + 1) / 2))
/-- What the transfer of step `t` hands `c`: its slot with what upstream sent, and that upstream's credit cell has
    come to round `t`. -/
def recvPay (l : Fin 4) (t : ℕ) (c : Dev nD) : sProp 𝕄 :=
  iprop(slotC l (par (t + 1)) c (sentV m l t (upD l c)) ∗ reached ER (crCell l (upD l c)) t)

omit [FloatOps F] in
instance barPay_storable (d : Bool) (c : Dev nD) : BI.Storable (upEmb : UEmb _ 𝕄) (barPay (F := F) d c) := by
  unfold barPay; split <;> infer_instance
omit [FloatOps F] in
instance credPay_storable (l : Fin 4) (t : ℕ) (c : Dev nD) : BI.Storable (upEmb : UEmb _ 𝕄) (credPay (F := F) l t c) := by
  unfold credPay; infer_instance
instance recvPay_storable (l : Fin 4) (t : ℕ) (c : Dev nD) : BI.Storable (upEmb : UEmb _ 𝕄) (recvPay (F := F) m l t c) := by
  unfold recvPay; infer_instance

/-- The step of a cell's round. -/
def stepOf : Kd → ℕ → ℕ
  | .send _ p, r => 2 * r + p.val
  | .recv _ p, r => 2 * r + (1 - p.val)
  | _, r => r
/-- The duties of a cell's round. -/
def dutiesK (k : Kd) (r : ℕ) : Finset Bool :=
  match k with
  | .bar => if r = 0 then Finset.univ else ∅
  | .cred _ => if r < 14 then {false} else ∅
  | .send l p => if stepOf (.send l p) r < 15 then {false} else ∅
  | .recv l p => if stepOf (.recv l p) r < 15 then {false} else ∅
  | .other => ∅
/-- The units of one duty. -/
def amountK : Kd → ℕ
  | .bar => 1 | .cred _ => 1 | .send _ _ => N | .recv _ _ => N | .other => 1
/-- What one duty hands over. -/
def payK (k : Kd) (r : ℕ) (d : Bool) (c : Dev nD) : sProp 𝕄 :=
  match k with
  | .bar => barPay (F := F) d c
  | .cred l => credPay (F := F) l r c
  | .send l p => slotAny (F := F) l p c
  | .recv l p => recvPay m l (stepOf (.recv l p) r) c
  | .other => iprop(emp)

theorem amountK_pos : ∀ k, 0 < amountK k
  | .bar => Nat.one_pos | .cred _ => Nat.one_pos | .send _ _ => N_pos | .recv _ _ => N_pos | .other => Nat.one_pos

/-- The rounds of every cell. -/
def sched : Rounds.Schedule (GSem nD τ sig) Bool 𝕄 where
  duties g r := if g.1.2 = .tc then dutiesK (kind g.2) r else ∅
  unitless _ := False
  amount g _ _ := amountK (kind g.2)
  payload g r d := payK m (kind g.2) r d g.1.1
  amount_pos g _ _ _ := amountK_pos _

instance sched_payload_storable (g : GSem nD τ sig) (r : ℕ) (d : Bool) :
    BI.Storable (upEmb : UEmb _ 𝕄) ((sched (F := F) m).payload g r d) := by
  show BI.Storable upEmb (payK m (kind g.2) r d g.1.1)
  unfold payK
  split <;> infer_instance

section Sched
variable (c : Dev nD) (l : Fin 4) (p : Fin 2) (t r : ℕ) (d : Bool)

theorem duties_tc (sm : SemLoc sig) : (sched (F := F) m).duties ((c : Thread nD τ), sm) r = dutiesK (kind sm) r := by
  dsimp only [sched]; exact if_pos rfl

theorem duties_bar : (sched (F := F) m).duties (barCell c) 0 = Finset.univ := by
  rw [duties_tc, kind_bar]; rfl
theorem duties_cr (h : t < 14) : (sched (F := F) m).duties (crCell l c) t = {false} := by
  rw [duties_tc, kind_cr]; exact if_pos h
theorem duties_ss (h : t < 15) : (sched (F := F) m).duties (ssCell l (par t) c) (t / 2) = {false} := by
  rw [duties_tc, kind_ss]; exact if_pos (by dsimp only [stepOf, par]; omega)
theorem stepOf_rs : stepOf (.recv l (par (t + 1))) (t / 2) = t := by dsimp only [stepOf, par]; omega
theorem duties_rs (h : t < 15) : (sched (F := F) m).duties (rsCell l (par (t + 1)) c) (t / 2) = {false} := by
  rw [duties_tc, kind_rs]; exact if_pos (by rw [stepOf_rs]; exact h)

theorem duties_bar_later : ∀ r, 1 ≤ r → (sched (F := F) m).duties (barCell c) r = ∅ := fun r h => by
  rw [duties_tc, kind_bar]; exact if_neg (by omega)
theorem duties_cr_later : ∀ r, 14 ≤ r → (sched (F := F) m).duties (crCell l c) r = ∅ := fun r h => by
  rw [duties_tc, kind_cr]; exact if_neg (by omega)
theorem duties_ss_later (R : ℕ) (hR : 15 ≤ 2 * R + p.val) : ∀ r, R ≤ r → (sched (F := F) m).duties (ssCell l p c) r = ∅ := fun r h => by
  rw [duties_tc, kind_ss]; exact if_neg (by dsimp only [stepOf]; omega)
theorem duties_rs_later (R : ℕ) (hR : 15 ≤ 2 * R + (1 - p.val)) : ∀ r, R ≤ r → (sched (F := F) m).duties (rsCell l p c) r = ∅ := fun r h => by
  rw [duties_tc, kind_rs]; exact if_neg (by dsimp only [stepOf]; omega)

theorem amount_bar : (sched (F := F) m).amount (barCell c) r d = 1 := by dsimp only [sched]; rw [kind_bar]; rfl
theorem amount_cr : (sched (F := F) m).amount (crCell l c) r d = 1 := by dsimp only [sched]; rw [kind_cr]; rfl
theorem amount_ss : (sched (F := F) m).amount (ssCell l p c) r d = N := by dsimp only [sched]; rw [kind_ss]; rfl
theorem amount_rs : (sched (F := F) m).amount (rsCell l p c) r d = N := by dsimp only [sched]; rw [kind_rs]; rfl

theorem expect_bar : (sched (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_cr (h : t < 14) : (sched (F := F) m).expect (crCell l c) t = 1 := by
  unfold Schedule.expect Schedule.amountOf; rw [duties_cr m c l t h, Finset.sum_singleton, amount_cr]
theorem expect_ss (h : t < 15) : (sched (F := F) m).expect (ssCell l (par t) c) (t / 2) = N := by
  unfold Schedule.expect Schedule.amountOf; rw [duties_ss m c l t h, Finset.sum_singleton, amount_ss]
theorem expect_rs (h : t < 15) : (sched (F := F) m).expect (rsCell l (par (t + 1)) c) (t / 2) = N := by
  unfold Schedule.expect Schedule.amountOf; rw [duties_rs m c l t h, Finset.sum_singleton, amount_rs]

theorem payload_bar : (sched (F := F) m).payload (barCell c) r d = barPay (F := F) d c := by
  dsimp only [sched]; rw [kind_bar]; rfl
theorem payload_cr : (sched (F := F) m).payload (crCell l c) r d = credPay (F := F) l r c := by
  dsimp only [sched]; rw [kind_cr]; rfl
theorem payload_ss : (sched (F := F) m).payload (ssCell l p c) r d = slotAny (F := F) l p c := by
  dsimp only [sched]; rw [kind_ss]; rfl
theorem payload_rs : (sched (F := F) m).payload (rsCell l (par (t + 1)) c) (t / 2) d = recvPay m l t c := by
  dsimp only [sched]; rw [kind_rs]; dsimp only [payK]; rw [stepOf_rs]

theorem rest_bar : bigSep ((sched (F := F) m).duties (barCell c) 0 \ ∅) (fun d => (sched (F := F) m).payload (barCell c) 0 d)
    = iprop(barPay (F := F) false c ∗ barPay (F := F) true c) := by
  rw [Finset.sdiff_empty, duties_bar, bigSep_univ_eq_bigSepL [false, true] (by decide) (by decide), bigSepL_cons_cons, bigSepL_singleton,
    payload_bar, payload_bar]
  rfl
theorem rest_cr (h : t < 14) : bigSep ((sched (F := F) m).duties (crCell l c) t \ ∅) (fun d => (sched (F := F) m).payload (crCell l c) t d)
    = credPay (F := F) l t c := by
  rw [Finset.sdiff_empty, duties_cr m c l t h, bigSep_singleton, payload_cr]
theorem rest_ss (h : t < 15) : bigSep ((sched (F := F) m).duties (ssCell l (par t) c) (t / 2) \ ∅) (fun d => (sched (F := F) m).payload (ssCell l (par t) c) (t / 2) d)
    = slotAny (F := F) l (par t) c := by
  rw [Finset.sdiff_empty, duties_ss m c l t h, bigSep_singleton, payload_ss]
theorem rest_rs (h : t < 15) : bigSep ((sched (F := F) m).duties (rsCell l (par (t + 1)) c) (t / 2) \ ∅) (fun d => (sched (F := F) m).payload (rsCell l (par (t + 1)) c) (t / 2) d)
    = recvPay m l t c := by
  rw [Finset.sdiff_empty, duties_rs m c l t h, bigSep_singleton, payload_rs]

end Sched

end Cert.LaneProof

end
-- ==== Proof.Owed.lean ====
/- What each device owes, the levels of the cells' waits, and that every wait is allowed. -/
module

public import proofs.«01_k».proof.Proof.Common

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## What is owed -/

theorem Ico_cons {a b : ℕ} (h : a < b) : Finset.Ico a b = insert a (Finset.Ico (a + 1) b) := by
  ext x; rw [Finset.mem_insert, Finset.mem_Ico, Finset.mem_Ico]; omega
theorem notMem_Ico_succ (a b : ℕ) : a ∉ Finset.Ico (a + 1) b := fun h => by rw [Finset.mem_Ico] at h; omega

/-- The transfers a lane still has to make, from step `a`. -/
def OwR (l : Fin 4) (a : ℕ) (c : Dev nD) : CellTallies nD τ sig ℕ :=
  ∑ s ∈ Finset.Ico a 15, tallyAt (rsCell l (par (s + 1)) (dnD l c)) s N
/-- The credits a lane still has to give, from step `b`. -/
def OwC (l : Fin 4) (b : ℕ) (c : Dev nD) : CellTallies nD τ sig ℕ :=
  ∑ s ∈ Finset.Ico b 14, tallyAt (crCell l (upD l c)) s 1
/-- Both. -/
def Ow (l : Fin 4) (a b : ℕ) (c : Dev nD) : CellTallies nD τ sig ℕ := OwR l a c + OwC l b c

theorem OwR_cons (l : Fin 4) (a : ℕ) (c : Dev nD) (h : a < 15) :
    OwR l a c = OwR l (a + 1) c + tallyAt (rsCell l (par (a + 1)) (dnD l c)) a N := by
  unfold OwR; rw [Ico_cons h, Finset.sum_insert (notMem_Ico_succ _ _), add_comm]
theorem OwC_cons (l : Fin 4) (b : ℕ) (c : Dev nD) (h : b < 14) :
    OwC l b c = OwC l (b + 1) c + tallyAt (crCell l (upD l c)) b 1 := by
  unfold OwC; rw [Ico_cons h, Finset.sum_insert (notMem_Ico_succ _ _), add_comm]
theorem OwR_end (l : Fin 4) (c : Dev nD) : OwR l 15 c = 0 := by unfold OwR; rw [Finset.Ico_self]; rfl
theorem OwC_end (l : Fin 4) (c : Dev nD) : OwC l 14 c = 0 := by unfold OwC; rw [Finset.Ico_self]; rfl
theorem Ow_end (l : Fin 4) (c : Dev nD) : Ow l 15 14 c = 0 := by unfold Ow; rw [OwR_end, OwC_end, add_zero]

/-- After the handshake: every transfer and every credit. -/
def O₁ (c : Dev nD) : CellTallies nD τ sig ℕ := Ow 0 0 0 c + Ow 1 0 0 c + Ow 2 0 0 c + Ow 3 0 0 c
/-- At launch: and the two barrier signals. -/
def O₀ (c : Dev nD) : CellTallies nD τ sig ℕ := O₁ c + tallyAt (barCell (rtD c)) 0 1 + tallyAt (barCell (lfD c)) 0 1

/-! ## Levels -/

def L (g : GSem nD τ sig) : Finset ℕ := if g.1.2 = .tc then Finset.range 15 else ∅
/-- Staging and send cells at 0, the barrier at 1, then step by step and lane by lane the receive cell before the
    credit cell. -/
def lv (g : GSem nD τ sig) (i : ℕ) : ℕ :=
  match kind g.2 with
  | .bar => 1
  | .recv l _ => 8 * i + 2 * l.val + 2
  | .cred l => 8 * i + 2 * l.val + 3
  | _ => 0

theorem L_of_ne (g : GSem nD τ sig) (h : g.1.2 ≠ .tc) : L g = ∅ := if_neg h
theorem mem_L (c : Dev nD) (sm : SemLoc sig) (i : ℕ) (h : i < 15) : i ∈ L ((c : Thread nD τ), sm) := by
  dsimp only [L]; rw [if_pos rfl]; exact Finset.mem_range.mpr h

theorem lv_bar (c : Dev nD) (i : ℕ) : lv (barCell c) i = 1 := by dsimp only [lv]; rw [kind_bar]
theorem lv_cr (l : Fin 4) (c : Dev nD) (i : ℕ) : lv (crCell l c) i = 8 * i + 2 * l.val + 3 := by dsimp only [lv]; rw [kind_cr]
theorem lv_ss (l : Fin 4) (p : Fin 2) (c : Dev nD) (i : ℕ) : lv (ssCell l p c) i = 0 := by dsimp only [lv]; rw [kind_ss]
theorem lv_rs (l : Fin 4) (p : Fin 2) (c : Dev nD) (i : ℕ) : lv (rsCell l p c) i = 8 * i + 2 * l.val + 2 := by dsimp only [lv]; rw [kind_rs]

/-- Everything owed lies above level `n`. -/
def Above (n : ℕ) (O : CellTallies nD τ sig ℕ) : Prop := ∀ g i, 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') := fun g i hp => by
  rw [Pi.add_apply, Finsupp.add_apply] at hp
  rcases Nat.eq_zero_or_pos (O g i) with h0 | h0
  · rw [h0, Nat.zero_add] at hp; exact h' g i hp
  · exact h g i h0
theorem Above.at {n : ℕ} {g : GSem nD τ sig} {i k : ℕ} (hi : i ∈ L g) (hn : n < lv g i) : Above n (tallyAt g i k) := fun g' i' hp => by
  rw [tallyAt_apply] at hp
  by_cases h : g' = g ∧ i' = i
  · rw [h.1, h.2]; exact ⟨hi, hn⟩
  · rw [if_neg h] at hp; exact absurd hp (Nat.lt_irrefl 0)
theorem Above.sum {n : ℕ} {S : Finset ℕ} {T : ℕ → CellTallies nD τ sig ℕ} (h : ∀ s ∈ S, Above n (T s)) : Above n (∑ s ∈ S, T s) := by
  induction S using Finset.induction_on with
  | empty => exact Above.zero n
  | insert a S ha ih =>
    rw [Finset.sum_insert ha]
    exact (h a (Finset.mem_insert_self _ _)).add (ih fun s hs => h s (Finset.mem_insert_of_mem hs))
theorem Above.owR {n : ℕ} (l : Fin 4) (a : ℕ) (c : Dev nD) (h : n < 8 * a + 2 * l.val + 2) : Above n (OwR l a c) :=
  Above.sum fun s hs => by
    have := Finset.mem_Ico.mp hs
    exact Above.at (mem_L _ _ _ this.2) (by rw [lv_rs]; omega)
theorem Above.owC {n : ℕ} (l : Fin 4) (b : ℕ) (c : Dev nD) (h : n < 8 * b + 2 * l.val + 3) : Above n (OwC l b c) :=
  Above.sum fun s hs => by
    have := Finset.mem_Ico.mp hs
    exact Above.at (mem_L _ _ _ (by omega)) (by rw [lv_cr]; omega)
theorem Above.ow {n : ℕ} (l : Fin 4) (a b : ℕ) (c : Dev nD) (h : n < 8 * a + 2 * l.val + 2) (h' : n < 8 * b + 2 * l.val + 3) : Above n (Ow l a b c) :=
  (Above.owR l a c h).add (Above.owC l b c h')
theorem above_O₁ (c : Dev nD) : Above 1 (O₁ c) :=
  (((Above.ow 0 0 0 c (by omega) (by omega)).add (Above.ow 1 0 0 c (by omega) (by omega))).add (Above.ow 2 0 0 c (by omega) (by omega))).add
    (Above.ow 3 0 0 c (by omega) (by omega))
theorem Above.mono {n n' : ℕ} {O : CellTallies nD τ sig ℕ} (h : Above n O) (hn : n' ≤ n) : Above n' O :=
  fun g i hp => ⟨(h g i hp).1, lt_of_le_of_lt hn (h g i hp).2⟩
theorem above_O₀ (c : Dev nD) : Above 0 (O₀ c) :=
  (((above_O₁ c).mono (Nat.zero_le 1)).add (Above.at (mem_L _ _ _ (by decide)) (by rw [lv_bar]; decide))).add
    (Above.at (mem_L _ _ _ (by decide)) (by rw [lv_bar]; decide))

omit [FloatOps F] in
/-- A wait at or below a level is allowed while everything owed is above it. -/
theorem mayWait (c : Dev nD) (sm : SemLoc sig) (i n : ℕ) (O : CellTallies nD τ sig ℕ) (hi : i < 15) (hn : lv ((c : Thread nD τ), sm) i ≤ n) (hO : Above n O) :
    (levAts L lv : sProp 𝕄) ⊢ MayWait (c : Thread nD τ) sm i O :=
  MayOwe.of_cut (L := L) (lev := lv) n (fun p hp => by rw [Finset.mem_singleton.mp hp]; exact mem_L c sm i hi)
    (fun g u hg => (hO g u hg).1)
    (fun p hp => by rw [Finset.mem_singleton.mp hp]; exact hn)
    (fun g u hg => (hO g u hg).2)

end Cert.LaneProof

end
-- ==== Proof.Slots.lean ====
/- A lane's slots: loads and stores in the body's own words. -/
module

public import proofs.«01_k».proof.Proof.Owed

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

variable (F) in
/-- The body's weakest precondition on device `c`. -/
abbrev wpc (c : Dev nD) {α : Type} (p : Pg F α) (Q : α → sProp 𝕄) : sProp 𝕄 :=
  wp frame (wpE (defs₀ (F := F)) 𝒱₀ (c : Thread nD τ) none) Set.univ p Q

/-- A program that has returned. -/
theorem wpc_ret (c : Dev nD) {α : Type} (a : α) (Q : α → sProp 𝕄) : Q a ⊢ wpc F c (.ret a) Q := by
  unfold wpc
  rw [wp_ret]
  iintro H
  imodintro
  iexact H
/-- A program after another. -/
theorem wpc_bind (c : Dev nD) {α β : Type} (p : Pg F α) (k : α → Pg F β) (Q : β → sProp 𝕄) :
    wpc F c p (fun a => wpc F c (k a) Q) ⊢ wpc F c (p >>= k) Q := Entails.of_eq (wp_bind _ _ _ p k Q).symm

omit [FloatOps F] in
theorem unflat_flat {e : EltTy} (v : Vec F S1x256x2048 e) : unflat (flat v) = v := by
  unfold unflat flat shapeCast
  funext i
  rw [Shape.reshapeEquiv_reshapeEquiv, Shape.reshapeEquiv_self]
omit [FloatOps F] in
theorem flat_unflat {e : EltTy} (v : Vec F S256x2048 e) : flat (unflat v) = v := by
  unfold unflat flat shapeCast
  funext i
  rw [Shape.reshapeEquiv_reshapeEquiv, Shape.reshapeEquiv_self]

omit [FloatOps F] in
theorem slot_set (l : Fin 4) (p : Fin 2) : (slotM l p).view.set = ((commM l).access (slotR p)).set := View.set_reshape _ _
omit [FloatOps F] in
/-- A slot read through the transfers' memref is the loaded slot without its leading axis. -/
theorem slot_read (l : Fin 4) (p : Fin 2) (f : (commM l).view.ty.Contents (Elt F)) :
    (slotM l p).view.read (Elt F) f = flat ((commM l).view.readAt (Elt F) (slotR p).toLoadRect f) := rfl
omit [FloatOps F] in
theorem slot_write (l : Fin 4) (p : Fin 2) (f : (commM l).view.ty.Contents (Elt F)) (w : Vec F S1x256x2048 .bf16) :
    (slotM l p).view.read (Elt F) (((commM l).access (slotR p)).write (Elt F) f w Finset.univ) = flat w := by
  rw [slot_read, View.readAt_rect]
  exact congrArg flat (View.read_write_univ _ _)

/-- A slot loaded. -/
theorem wp_slot_load (l : Fin 4) (p : Fin 2) (c : Dev nD) (V : Vec F S256x2048 .bf16) {hl : (commM l).view.LoadsAt (slotR p).toLoadRect}
    {α : Type} {k : Vec F S1x256x2048 .bf16 → Pg F α} {Q : α → sProp 𝕄} :
    iprop(slotC l p c V ∗ (slotC l p c V -∗ wpc F c (k (unflat V)) Q)) ⊢ wpc F c (.op (.load (commM l) (slotR p).toLoadRect hl) k) Q := by
  unfold slotC owns
  iintro ⟨⟨%f, %hf, Hf⟩, Hk⟩
  rw [slot_set]
  iapply (wp_load 𝒱₀ (c : Thread nD τ) none Set.univ (m := commM l) (r := (slotR p).toLoadRect) (by rw [View.set_slice]; exact subset_rfl)) $$ Hf
  iintro Hf
  rw [← hf, slot_read, unflat_flat]
  iapply Hk
  iexists f
  isplitr; · ipureintro; rfl
  iexact Hf

/-- A slot stored. -/
theorem wp_slot_store (l : Fin 4) (p : Fin 2) (c : Dev nD) (V : Vec F S256x2048 .bf16) (w : Vec F S1x256x2048 .bf16)
    {hx : ((commM l).access (slotR p)).Stores Finset.univ} {hm : Finset.univ = Finset.univ ∨ ∀ a, (slotR p).stride a = 1}
    {α : Type} {k : PUnit → Pg F α} {Q : α → sProp 𝕄} :
    iprop(slotC l p c V ∗ (slotC l p c (flat w) -∗ wpc F c (k ⟨⟩) Q)) ⊢ wpc F c (.op (.store (commM l) (slotR p) w Finset.univ hx hm) k) Q := by
  unfold slotC owns
  iintro ⟨⟨%f, %hf, Hf⟩, Hk⟩
  rw [slot_set]
  iapply (wp_store 𝒱₀ (c : Thread nD τ) none Set.univ (m := commM l) (r := slotR p) (Mk := Finset.univ) (f := f) (S := ((commM l).access (slotR p)).set) subset_rfl) $$ Hf
  iintro Hf
  iapply Hk
  iexists _
  isplitr; · ipureintro; exact slot_write l p f w
  iexact Hf

end Cert.LaneProof

end
-- ==== Proof.Lane.lean ====
/- The weakest preconditions of a lane's pieces: the two waits, the accumulation, the credit, the transfer
   and the partial product, at any lane and step. -/
module

public import proofs.«01_k».proof.Proof.Slots

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## All the cells and what everybody knows of them -/

/-- A device's cells: the barrier, and per lane two send, two receive and one credit cell. -/
abbrev CIx := Option (Fin 4 × Fin 5)
def csem : CIx → SemLoc sig
  | none => .reg baS
  | some (l, 0) => .dma (ssS l 0)
  | some (l, 1) => .dma (ssS l 1)
  | some (l, 2) => .dma (rsS l 0)
  | some (l, 3) => .dma (rsS l 1)
  | some (l, 4) => .reg (crS l)
/-- The index a use names. -/
def cidx : Kd → CIx
  | .send l 0 => some (l, 0) | .send l 1 => some (l, 1) | .recv l 0 => some (l, 2) | .recv l 1 => some (l, 3)
  | .cred l => some (l, 4) | _ => none
theorem cidx_csem : ∀ k, cidx (kind (csem k)) = k
  | none => by dsimp only [csem]; rw [kind_bar]; rfl
  | some (l, 0) => by dsimp only [csem]; rw [kind_ss]; rfl
  | some (l, 1) => by dsimp only [csem]; rw [kind_ss]; rfl
  | some (l, 2) => by dsimp only [csem]; rw [kind_rs]; rfl
  | some (l, 3) => by dsimp only [csem]; rw [kind_rs]; rfl
  | some (l, 4) => by dsimp only [csem]; rw [kind_cr]; rfl
theorem csem_injective : Function.Injective csem := fun a b h => by rw [← cidx_csem a, h, cidx_csem b]
def kcell (ck : Dev nD × CIx) : GSem nD τ sig := ((ck.1 : Thread nD τ), csem ck.2)
theorem kcell_injective : Function.Injective kcell := fun a b h => by
  have h1 : a.1 = b.1 := congrArg (fun g : GSem nD τ sig => g.1.1) h
  have h2 : csem a.2 = csem b.2 := congrArg (fun g : GSem nD τ sig => g.2) h
  exact Prod.ext h1 (csem_injective h2)
/-- Every cell of every device. -/
def allCells : Finset (GSem nD τ sig) := Finset.univ.map ⟨kcell, kcell_injective⟩

theorem mem_bar (c : Dev nD) : barCell c ∈ allCells := Finset.mem_map.mpr ⟨(c, none), Finset.mem_univ _, rfl⟩
theorem mem_cr (l : Fin 4) (c : Dev nD) : crCell l c ∈ allCells := Finset.mem_map.mpr ⟨(c, some (l, 4)), Finset.mem_univ _, rfl⟩
theorem mem_ss (l : Fin 4) : ∀ (p : Fin 2) (c : Dev nD), ssCell l p c ∈ allCells
  | 0, c => Finset.mem_map.mpr ⟨(c, some (l, 0)), Finset.mem_univ _, rfl⟩
  | 1, c => Finset.mem_map.mpr ⟨(c, some (l, 1)), Finset.mem_univ _, rfl⟩
theorem mem_rs (l : Fin 4) : ∀ (p : Fin 2) (c : Dev nD), rsCell l p c ∈ allCells
  | 0, c => Finset.mem_map.mpr ⟨(c, some (l, 2)), Finset.mem_univ _, rfl⟩
  | 1, c => Finset.mem_map.mpr ⟨(c, some (l, 3)), Finset.mem_univ _, rfl⟩

/-- What every device knows: each cell's invariant, that each cell has come to round 0, and the levels. -/
def records : sProp 𝕄 :=
  iprop((bigSep allCells fun g => iprop(∃ κ, cellInv ER (sched m) κ g)) ∗ (bigSep allCells fun g => reached ER g 0) ∗ levAts L lv)
instance records_persistent : BI.Persistent (records m) := by unfold records; infer_instance

theorem records_inv {g : GSem nD τ sig} (hg : g ∈ allCells) : records m ⊢ iprop(∃ κ, cellInv ER (sched m) κ g) := by
  unfold records
  refine BIBase.Entails.trans ?_ (bigSep_elim hg (Φ := fun g => iprop(∃ κ, cellInv ER (sched m) κ g)))
  iintro ⟨H, -, -⟩
  iexact H
theorem records_reached {g : GSem nD τ sig} (hg : g ∈ allCells) : records m ⊢ reached ER g 0 := by
  unfold records
  refine BIBase.Entails.trans ?_ (bigSep_elim hg (Φ := fun g => (reached ER g 0 : sProp 𝕄)))
  iintro ⟨-, H, -⟩
  iexact H
theorem records_lev : records m ⊢ levAts L lv := by
  unfold records
  iintro ⟨-, -, H⟩
  iexact H

/-- What a device still owes, whatever it has waited on. -/
def owesE (c : Dev nD) (O : CellTallies nD τ sig ℕ) : sProp 𝕄 := iprop(∃ W, owes (c : Thread nD τ) O W)
/-- A lane's partial buffer, holding `u`. -/
def pbC (l : Fin 4) (c : Dev nD) (u : Vec F S256x2048 .f32) : sProp 𝕄 := owns (c : Thread nD τ) (pbM l) fullShare u

section Pieces
variable (l : Fin 4) (t : ℕ) (c : Dev nD)

/-- The two waits of a step: the sent slot back, the received slot with what upstream sent. -/
theorem wp_waits2 (ht : t < 15) (O : CellTallies nD τ sig ℕ) (hO : Above (8 * t + 2 * l.val + 2) O) (K : PUnit → sProp 𝕄) :
    iprop(records m ∗ (owesE c O ∗ atPos ER (ssCell l (par t) c) (t / 2) ∅ 0 ∗ atPos ER (rsCell l (par (t + 1)) c) (t / 2) ∅ 0
        ∗ cred (tallyAt (ssCell l (par t) c) t N) ∗ cred (tallyAt (rsCell l (par (t + 1)) c) t N))
      ∗ ((owesE c O ∗ (atPos ER (ssCell l (par t) c) (t / 2 + 1) ∅ 0 ∗ reached ER (ssCell l (par t) c) (t / 2 + 1))
          ∗ (atPos ER (rsCell l (par (t + 1)) c) (t / 2 + 1) ∅ 0 ∗ reached ER (rsCell l (par (t + 1)) c) (t / 2 + 1))
          ∗ slotAny (F := F) l (par t) c ∗ recvPay m l t c) -∗ K ⟨⟩))
      ⊢ wpc F c (waits2 l t) K := by
  unfold waits2
  simp only [Prog.lift, Prog.bind_op, Prog.bind_ret, Prog.pure_eq_ret]
  unfold owesE
  iintro ⟨#Hrec, ⟨⟨%W, HO⟩, HatS, HatR, HcS, HcR⟩, Hk⟩
  ihave #HIS := (records_inv m (mem_ss l (par t) c)) $$ Hrec
  icases HIS with ⟨%κ₁, #HIS⟩
  ihave #HIR := (records_inv m (mem_rs l (par (t + 1)) c)) $$ Hrec
  icases HIR with ⟨%κ₂, #HIR⟩
  ihave #Hlev := (records_lev m) $$ Hrec
  iapply (Rounds.wp_wait_rest_token 𝒱₀ ER (sched m) (c : Thread nD τ) none (κ := κ₁)
      (wpE_waitDma2_eq 𝒱₀ (c : Thread nD τ) none Set.univ) (Set.mem_univ _) t (O := O) (W := W) (R := t / 2) (m := 0) (T := ∅)
      (by rw [Nat.zero_add, expect_ss m c l t ht, NN_eq])) $$ [HcS HO HatS]
  · isplitr; · iexact HIS
    isplitl [HcS]; · rw [NN_eq]; iexact HcS
    isplitl [HO]; · iexact HO
    isplitr
    · iapply (mayWait c (.dma (ssS l (par t))) t (8 * t + 2 * l.val + 2) O ht (by rw [lv_ss]; exact Nat.zero_le _) hO); iexact Hlev
    iexact HatS
  iintro ⟨HO, HatS, #HrS, Hpay⟩
  ihave Hs := (Entails.of_eq (rest_ss m c l t ht)) $$ Hpay
  iapply (Rounds.wp_wait_rest_token 𝒱₀ ER (sched m) (c : Thread nD τ) none (κ := κ₂)
      (wpE_waitDma2_eq 𝒱₀ (c : Thread nD τ) none Set.univ) (Set.mem_univ _) t (O := O) (R := t / 2) (m := 0) (T := ∅)
      (by rw [Nat.zero_add, expect_rs m c l t ht, NN_eq])) $$ [HcR HO HatR]
  · isplitr; · iexact HIR
    isplitl [HcR]; · rw [NN_eq]; iexact HcR
    isplitl [HO]; · iexact HO
    isplitr
    · iapply (mayWait c (.dma (rsS l (par (t + 1)))) t (8 * t + 2 * l.val + 2) O ht (by rw [lv_rs]) hO); iexact Hlev
    iexact HatR
  iintro ⟨HO, HatR, #HrR, Hpay⟩
  ihave Hr := (Entails.of_eq (rest_rs m c l t ht)) $$ Hpay
  iapply (wpc_ret c)
  iapply Hk
  isplitl [HO]; · iexists _; iexact HO
  isplitl [HatS]
  · isplitl [HatS]; · iexact HatS
    iexact HrS
  isplitl [HatR]
  · isplitl [HatR]; · iexact HatR
    iexact HrR
  isplitl [Hs]; · iexact Hs
  iexact Hr

omit [FloatOps F] in
/-- A partial buffer loaded is what it holds. -/
theorem pb_read (f : (pbM l).view.ty.Contents (Elt F)) : (pbM l).view.readAt (Elt F) pbR.toLoadRect f = (pbM l).view.read (Elt F) f := by
  funext y
  exact congrArg ((pbM l).view.read (Elt F) f) (funext fun a => Fin.ext (by
    match a with
    | 0 => show 0 + 1 * (y 0).val = (y 0).val; omega
    | 1 => show 0 + 1 * (y 1).val = (y 1).val; omega))

/-- The accumulation: the received slot holds the received sum plus the partial product. -/
theorem wp_accum (V : Vec F S256x2048 .bf16) (u : Vec F S256x2048 .f32) (K : PUnit → sProp 𝕄) :
    iprop(slotC l (par (t + 1)) c V ∗ pbC l c u ∗ ((slotC l (par (t + 1)) c (flat (k0_pay20 (unflat V) u)) ∗ pbC l c u) -∗ K ⟨⟩))
      ⊢ wpc F c (accum l t) K := by
  unfold accum
  simp only [Prog.lift, Prog.bind_op, Prog.bind_ret, Prog.pure_eq_ret]
  iintro ⟨Hs, Hp, Hk⟩
  iapply (wp_slot_load l (par (t + 1)) c V)
  isplitl [Hs]; · iexact Hs
  iintro Hs
  unfold pbC owns
  icases Hp with ⟨%f, %hf, Hp⟩
  iapply (wp_load 𝒱₀ (c : Thread nD τ) none Set.univ (m := pbM l) (r := pbR.toLoadRect) (View.setOn_subset_set _ _)) $$ Hp
  iintro Hp
  rw [pb_read, hf]
  iapply (wp_slot_load l (par (t + 1)) c V)
  isplitl [Hs]; · iexact Hs
  iintro Hs
  iapply (wp_slot_store l (par (t + 1)) c V (k0_pay20 (unflat V) u))
  isplitl [Hs]; · iexact Hs
  iintro Hs
  iapply (wpc_ret c)
  iapply Hk
  isplitl [Hs]; · iexact Hs
  iexists f
  isplitr; · ipureintro; exact hf
  iexact Hp

/-- The credit of a step: the own slot sent from goes upstream, the slot the next transfer fills comes from downstream. -/
theorem wp_credit (ht : t < 14) (O : CellTallies nD τ sig ℕ) (hO : Above (8 * t + 2 * l.val + 3) O) (K : PUnit → sProp 𝕄) :
    iprop(records m ∗ (owesE c (O + tallyAt (crCell l (upD l c)) t 1) ∗ dutyTok ER (crCell l (upD l c)) t false ∗ reached ER (crCell l (upD l c)) t
        ∗ slotAny (F := F) l (par t) c ∗ reached ER (rsCell l (par t) c) ((t + 1) / 2)
        ∗ cred (tallyAt (crCell l c) t 1) ∗ atPos ER (crCell l c) t ∅ 0)
      ∗ ((owesE c O ∗ (atPos ER (crCell l c) (t + 1) ∅ 0 ∗ reached ER (crCell l c) (t + 1)) ∗ credPay (F := F) l t c) -∗ K ⟨⟩))
      ⊢ wpc F c (credit l c) K := by
  unfold credit
  simp only [semSignalWord, semWaitWord, Prog.lift, Prog.bind_op, Prog.bind_ret, Prog.pure_eq_ret]
  unfold owesE
  iintro ⟨#Hrec, ⟨⟨%W, HO⟩, Htok, #Hru, Hs, #Hrr, Hc, Hat⟩, Hk⟩
  ihave #HIU := (records_inv m (mem_cr l (upD l c))) $$ Hrec
  icases HIU with ⟨%κ₁, #HIU⟩
  ihave #HIC := (records_inv m (mem_cr l c)) $$ Hrec
  icases HIC with ⟨%κ₂, #HIC⟩
  ihave #Hlev := (records_lev m) $$ Hrec
  iapply (Rounds.wp_signal 𝒱₀ ER (sched m) (c : Thread nD τ) none (dst := (upD l c : Thread nD τ)) (κ := κ₁) (r := t)
      (d := false) (by rw [duties_cr m _ l t ht]; exact Finset.mem_singleton_self _) ((amount_cr m (upD l c) l t false).trans (by decide)) t O rfl)
    $$ [HO Htok Hs]
  · isplitr; · iexact HIU
    isplitl [HO]; · iexact HO
    isplitl [Htok]; · iexact Htok
    isplitl [Hs]
    · rw [payload_cr]; unfold credPay; rw [dn_up]
      isplitl [Hs]; · iexact Hs
      iexact Hrr
    · iexact Hru
  iintro HO
  iapply (Rounds.wp_wait_rest_token 𝒱₀ ER (sched m) (c : Thread nD τ) none (κ := κ₂)
      (wpE_semWait_eq 𝒱₀ (c : Thread nD τ) none Set.univ) (Set.mem_univ _) t (O := O) (W := W) (R := t) (m := 0) (T := ∅)
      (by rw [expect_cr m c l t ht]; decide)) $$ [Hc HO Hat]
  · isplitr; · iexact HIC
    isplitl [Hc]; · iexact Hc
    isplitl [HO]; · iexact HO
    isplitr
    · iapply (mayWait c (.reg (crS l)) t (8 * t + 2 * l.val + 3) O (by omega) (by rw [lv_cr]) hO); iexact Hlev
    iexact Hat
  iintro ⟨HO, Hat, #Hr, Hpay⟩
  ihave Hp := (Entails.of_eq (rest_cr m c l t ht)) $$ Hpay
  iapply (wpc_ret c)
  iapply Hk
  isplitl [HO]; · iexists _; iexact HO
  isplitl [Hat]
  · isplitl [Hat]; · iexact Hat
    iexact Hr
  iexact Hp

/-- A transfer: the own slot goes out, the slot downstream is filled with what it holds. -/
theorem wp_send_lane (ht : t < 15) (O : CellTallies nD τ sig ℕ) (K : PUnit → sProp 𝕄) :
    iprop(records m ∗ (slotC l (par t) c (sentV m l t c) ∗ slotAny (F := F) l (par (t + 1)) (dnD l c)
        ∗ owesE c (O + tallyAt (rsCell l (par (t + 1)) (dnD l c)) t N)
        ∗ dutyTok ER (ssCell l (par t) c) (t / 2) false ∗ reached ER (ssCell l (par t) c) (t / 2)
        ∗ dutyTok ER (rsCell l (par (t + 1)) (dnD l c)) (t / 2) false ∗ reached ER (rsCell l (par (t + 1)) (dnD l c)) (t / 2)
        ∗ reached ER (crCell l c) t)
      ∗ ((cred (tallyAt (ssCell l (par t) c) t N) ∗ owesE c O) -∗ K ⟨⟩))
      ⊢ wpc F c (send l t c) K := by
  unfold send
  simp only [Prog.lift, Prog.bind_op, Prog.bind_ret, Prog.pure_eq_ret]
  unfold owesE slotAny slotC owns
  iintro ⟨#Hrec, ⟨⟨%fs, %hfs, Hs⟩, ⟨%V, %fd, %hfd, Hd⟩, ⟨%W, HO⟩, HtS, #HrS, HtR, #HrR, #HrC⟩, Hk⟩
  ihave #HIS := (records_inv m (mem_ss l (par t) c)) $$ Hrec
  icases HIS with ⟨%κ₁, #HIS⟩
  ihave #HIR := (records_inv m (mem_rs l (par (t + 1)) (dnD l c))) $$ Hrec
  icases HIR with ⟨%κ₂, #HIR⟩
  iapply (Rounds.wp_send_pointsTo_with 𝒱₀ ER (sched m) (c : Thread nD τ) none (κ₁ := κ₁) (κ₂ := κ₂)
    (r₁ := t / 2) (r₂ := t / 2) (d₁ := false) (d₂ := false) (fs := fs) (fd := fd) (F := reached ER (crCell l c) t)
    (by rw [duties_ss m c l t ht]; exact Finset.mem_singleton_self _) (by rw [duties_rs m _ l t ht]; exact Finset.mem_singleton_self _)
    t t N (by exact NN_eq l (par (t + 1))) (amount_ss m c l (par t) _ false) (amount_rs m (dnD l c) l (par (t + 1)) _ false) O rfl (W := W)
    (by rw [payload_ss]; unfold slotAny slotC owns; iintro H; iexists _, fs; isplitr; · (ipureintro; rfl)
        iexact H)
    (by
      rw [payload_rs]; unfold recvPay slotC owns; rw [up_dn]
      iintro ⟨H, Hc⟩
      isplitl [H]
      · iexists ((slotM l (par (t + 1))).view.write (Elt F) fd ((slotM l (par t)).view.read (Elt F) fs) Finset.univ); isplitr
        · ipureintro; exact (View.read_write_univ _ _).trans hfs
        iexact H
      iexact Hc)) $$ [Hs Hd HO HtS HtR]
  · isplitr; · iexact HIS
    isplitr; · iexact HIR
    isplitl [Hs]; · iexact Hs
    isplitl [Hd]
    · isplitl [Hd]; · iexact Hd
      iexact HrC
    isplitl [HO]; · iexact HO
    isplitl [HtS]; · iexact HtS
    isplitr; · iexact HrS
    isplitl [HtR]; · iexact HtR
    iexact HrR
  iintro ⟨Hc, HO⟩
  iapply (wpc_ret c)
  iapply Hk
  isplitl [Hc]; · iexact Hc
  iexists W; iexact HO

end Pieces

end Cert.LaneProof

end
-- ==== Proof.Turn.lean ====
/- A lane's state from step to step, the partial products and a lane's turn. -/
module

public import proofs.«01_k».proof.Proof.Lane
public import Idealize.SL.BI.BigOpNat

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev xM : Memref sig .tc .vmem S4096x256 .fp8e4m3 := Memref.whole cc0_stg0_0
abbrev wM : Memref sig .tc .vmem S256x8192 .fp8e5m2 := Memref.whole cc0_stg1_0
abbrev oM : Memref sig .tc .vmem S256x8192 .f32 := Memref.whole cc0_stg4_0

/-- The staged columns of `x`. -/
def xC (c : Dev nD) : sProp 𝕄 := ((c : Thread nD τ).loc cc0_stg0_0) ↦{fullShare} xstg m c
/-- The widened weights in the scratch. -/
def wbC (c : Dev nD) : sProp 𝕄 := ((c : Thread nD τ).loc cc0_scratch0) ↦{fullShare} wbfV m c
/-- A lane's partial buffer, holding anything. -/
def pbAny (l : Fin 4) (c : Dev nD) : sProp 𝕄 := iprop(∃ u, pbC (F := F) l c u)

section Pieces
variable (l : Fin 4) (c : Dev nD)

omit [FloatOps F] in
theorem pb_write (f : (pbM l).view.ty.Contents (Elt F)) (w : Vec F S256x2048 .f32) :
    (pbM l).view.read (Elt F) (((pbM l).access pbR).write (Elt F) f w Finset.univ) = w := by
  rw [← pb_read, View.readAt_rect]
  exact View.read_write_univ _ _

/-- A step's partial product, stored. -/
theorem wp_partial (t : Fin 15) (K : PUnit → sProp 𝕄) :
    iprop((xC m c ∗ wbC m c ∗ pbAny (F := F) l c) ∗ ((xC m c ∗ wbC m c ∗ pbC l c (partV m l t c)) -∗ K ⟨⟩))
      ⊢ wpc F c (partial' xM l t c) K := by
  unfold partial'
  simp only [Prog.lift, Prog.bind_op, Prog.bind_ret, Prog.pure_eq_ret]
  unfold xC wbC pbAny pbC owns
  iintro ⟨⟨Hx, Hw, ⟨%u, %f, %hf, Hp⟩⟩, Hk⟩
  iapply (wp_load 𝒱₀ (c : Thread nD τ) none Set.univ (m := xM) (Finset.subset_univ _)) $$ Hx
  iintro Hx
  iapply (wp_load 𝒱₀ (c : Thread nD τ) none Set.univ (m := wbfM) (Finset.subset_univ _)) $$ Hw
  iintro Hw
  iapply (wp_load 𝒱₀ (c : Thread nD τ) none Set.univ (m := pbM l) (r := pbR.toLoadRect) (View.setOn_subset_set _ _)) $$ Hp
  iintro Hp
  iapply (wp_store 𝒱₀ (c : Thread nD τ) none Set.univ (m := pbM l) (r := pbR) (Mk := Finset.univ) (f := f) (S := (pbM l).view.set)
    (View.set_slice_subset _ _)) $$ Hp
  iintro Hp
  iapply (wpc_ret c)
  iapply Hk
  isplitl [Hx]; · iexact Hx
  isplitl [Hw]; · iexact Hw
  iexists _
  isplitr; · ipureintro; exact pb_write l f _
  iexact Hp

/-- A lane's first sum, in its first slot. -/
theorem wp_seed (K : PUnit → sProp 𝕄) :
    iprop((xC m c ∗ wbC m c ∗ slotAny (F := F) l 0 c) ∗ ((xC m c ∗ wbC m c ∗ slotC l 0 c (sentV m l 0 c)) -∗ K ⟨⟩))
      ⊢ wpc F c (seed xM l c) K := by
  unfold seed
  simp only [Prog.lift, Prog.bind_op, Prog.bind_ret, Prog.pure_eq_ret]
  unfold xC wbC slotAny
  iintro ⟨⟨Hx, Hw, ⟨%V, Hs⟩⟩, Hk⟩
  iapply (wp_load 𝒱₀ (c : Thread nD τ) none Set.univ (m := xM) (Finset.subset_univ _)) $$ Hx
  iintro Hx
  iapply (wp_load 𝒱₀ (c : Thread nD τ) none Set.univ (m := wbfM) (Finset.subset_univ _)) $$ Hw
  iintro Hw
  iapply (wp_slot_load l 0 c V)
  isplitl [Hs]; · iexact Hs
  iintro Hs
  iapply (wp_slot_store l 0 c V)
  isplitl [Hs]; · iexact Hs
  iintro Hs
  iapply (wpc_ret c)
  iapply Hk
  isplitl [Hx]; · iexact Hx
  isplitl [Hw]; · iexact Hw
  iexact Hs

/-! ## A lane's state -/

/-- What a lane pays the transfer of step `s` with. -/
abbrev payX (s : ℕ) : sProp 𝕄 :=
  iprop(dutyTok ER (ssCell l (par s) c) (s / 2) false ∗ dutyTok ER (rsCell l (par (s + 1)) (dnD l c)) (s / 2) false)

/-- Where a lane stands at the start of turn `t`: its cells' rounds, what it has coming, what it will pay with. -/
def laneIn (t : ℕ) : sProp 𝕄 :=
  iprop((atPos ER (ssCell l (par t) c) (t / 2) ∅ 0 ∗ atPos ER (ssCell l (par (t + 1)) c) ((t + 1) / 2) ∅ 0
      ∗ atPos ER (rsCell l (par (t + 1)) c) (t / 2) ∅ 0 ∗ atPos ER (rsCell l (par t) c) ((t + 1) / 2) ∅ 0
      ∗ atPos ER (crCell l c) t ∅ 0)
    ∗ (reached ER (ssCell l (par (t + 1)) c) ((t + 1) / 2) ∗ reached ER (rsCell l (par t) c) ((t + 1) / 2))
    ∗ cred (tallyAt (ssCell l (par t) c) t N)
    ∗ (bigSep (Finset.Ico t 15) fun s => cred (tallyAt (rsCell l (par (s + 1)) c) s N))
    ∗ bigSep (Finset.Ico (t + 1) 15) (payX (F := F) l c)
    ∗ (bigSep (Finset.Ico t 14) fun s => iprop(cred (tallyAt (crCell l c) s 1) ∗ dutyTok ER (crCell l (upD l c)) s false)))

theorem par_two (t : ℕ) : par (t + 1 + 1) = par t := Fin.ext (by dsimp only [par]; omega)
theorem half_two (t : ℕ) : (t + 1 + 1) / 2 = t / 2 + 1 := by omega

/-- A lane's turn before the last step. -/
theorem wp_turn (t : ℕ) (ht : t < 14) (R : CellTallies nD τ sig ℕ) (hR : Above (8 * t + 2 * l.val + 3) R) (K : PUnit → sProp 𝕄) :
    iprop(records m ∗ (laneIn l c t ∗ pbC l c (partV m l (f15 t) c) ∗ owesE c (R + Ow l (t + 1) t c))
        ∗ ((laneIn l c (t + 1) ∗ pbAny (F := F) l c ∗ owesE c (R + Ow l (t + 1 + 1) (t + 1) c)) -∗ K ⟨⟩))
      ⊢ wpc F c (turn l t c) K := by
  unfold turn
  have hA : Above (8 * t + 2 * l.val + 2) (R + Ow l (t + 1) t c) :=
    (hR.mono (by omega)).add (Above.ow l _ _ c (by omega) (by omega))
  have hO : R + Ow l (t + 1) t c = (R + Ow l (t + 1) (t + 1) c) + tallyAt (crCell l (upD l c)) t 1 := by
    unfold Ow; rw [OwC_cons l t c ht]; ac_rfl
  have hO' : R + Ow l (t + 1) (t + 1) c = (R + Ow l (t + 1 + 1) (t + 1) c) + tallyAt (rsCell l (par (t + 1 + 1)) (dnD l c)) (t + 1) N := by
    unfold Ow; rw [OwR_cons l (t + 1) c (by omega)]; ac_rfl
  have hB : Above (8 * t + 2 * l.val + 3) (R + Ow l (t + 1) (t + 1) c) := hR.add (Above.ow l _ _ c (by omega) (by omega))
  unfold laneIn
  rw [bigSep_Ico_succ_bot (show t < 15 by omega), bigSep_Ico_succ_bot (show t < 14 from ht), bigSep_Ico_succ_bot (show t + 1 < 15 by omega) (payX (F := F) l c)]
  rw [par_two, half_two]
  iintro ⟨#Hrec, ⟨⟨⟨HatS, HatS', HatR, HatR', HatC⟩, ⟨#HrS', #HrR'⟩, HcS, ⟨HcR, HcRs⟩, ⟨⟨HtS, HtR⟩, Hts⟩, ⟨⟨HcC, HtC⟩, HcCs⟩⟩, Hp, HO⟩, Hk⟩
  iapply (wpc_bind c)
  iapply (wp_waits2 m l t c (by omega) (R + Ow l (t + 1) t c) hA)
  isplitr; · iexact Hrec
  isplitl [HO HatS HatR HcS HcR]
  · isplitl [HO]; · iexact HO
    isplitl [HatS]; · iexact HatS
    isplitl [HatR]; · iexact HatR
    isplitl [HcS]; · iexact HcS
    iexact HcR
  iintro ⟨HO, ⟨HatS, #HrS⟩, ⟨HatR, #HrR⟩, Hs, Hrv⟩
  unfold recvPay
  icases Hrv with ⟨Hv, #HrU⟩
  iapply (wpc_bind c)
  iapply (wp_accum l t c (sentV m l t (upD l c)) (partV m l (f15 t) c))
  isplitl [Hv]; · iexact Hv
  isplitl [Hp]; · iexact Hp
  iintro ⟨Hv, Hp⟩
  iapply (wpc_bind c)
  iapply (wp_credit m l t c ht (R + Ow l (t + 1) (t + 1) c) hB)
  isplitr; · iexact Hrec
  isplitl [HO HtC Hs HcC HatC]
  · isplitl [HO]; · rw [hO]; iexact HO
    isplitl [HtC]; · iexact HtC
    isplitr; · iexact HrU
    isplitl [Hs]; · iexact Hs
    isplitr; · iexact HrR'
    isplitl [HcC]; · iexact HcC
    iexact HatC
  iintro ⟨HO, ⟨HatC, #HrC⟩, Hcp⟩
  unfold credPay
  icases Hcp with ⟨Hd, #HrD⟩
  iapply (wp_send_lane m l (t + 1) c (by omega) (R + Ow l (t + 1 + 1) (t + 1) c))
  isplitr; · iexact Hrec
  isplitl [HO Hv Hd HtS HtR]
  · isplitl [Hv]; · iexact Hv
    isplitl [Hd]; · rw [par_two]; iexact Hd
    isplitl [HO]; · rw [hO']; iexact HO
    isplitl [HtS]; · iexact HtS
    isplitr; · iexact HrS'
    isplitl [HtR]; · rw [par_two]; iexact HtR
    isplitr; · rw [par_two]; iexact HrD
    iexact HrC
  iintro ⟨HcS, HO⟩
  iapply Hk
  isplitr [Hp HO]
  · isplitl [HatS HatS' HatR HatR' HatC]
    · isplitl [HatS']; · iexact HatS'
      isplitl [HatS]; · iexact HatS
      isplitl [HatR']; · iexact HatR'
      isplitl [HatR]; · iexact HatR
      iexact HatC
    isplitr
    · isplitr; · iexact HrS
      iexact HrR
    isplitl [HcS]; · iexact HcS
    isplitl [HcRs]; · iexact HcRs
    isplitl [Hts]; · iexact Hts
    iexact HcCs
  isplitl [Hp]
  · unfold pbAny; iexists _; iexact Hp
  iexact HO

end Pieces

end Cert.LaneProof

end
-- ==== Proof.Steps.lean ====
/- The steps of the body: a step of the four lanes, the steps by induction, the last step with the result. -/
module

public import proofs.«01_k».proof.Proof.Turn

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The product of the two scales. -/
def aV (c : Dev nD) : F .f32 :=
  k0_pay9 ((Memref.whole cc0_stg2_0 : Memref sig .tc .smem S1 .f32).view.readAt (Elt F) (Rect.unit (s := S1) ![0] S1.size inb_S1_S1_0).toLoadRect (sxstg m c)
      (Shape.Idx.first (numel1_S1.symm ▸ Nat.one_pos)))
    ((Memref.whole cc0_stg3_0 : Memref sig .tc .smem S1 .f32).view.readAt (Elt F) (Rect.unit (s := S1) ![0] S1.size inb_S1_S1_0).toLoadRect (systg m c)
      (Shape.Idx.first (numel1_S1.symm ▸ Nat.one_pos)))
/-- A lane's columns of the result. -/
def outL (l : Fin 4) (c : Dev nD) : Vec F S256x2048 .f32 :=
  k0_pay151 (aV m c) (unflat (sentV m l 14 (upD l c))) (partV m l 14 c)
/-- The result's staging buffer with the columns of the lanes below `n` finished. -/
def outSt (n : ℕ) (c : Dev nD) : sProp 𝕄 :=
  iprop(∃ g : Buf (Elt F) ((c : Thread nD τ).loc cc0_stg4_0), ⌜∀ l : Fin 4, l.val < n → (oM.access (colR l)).read (Elt F) g = outL m l c⌝
    ∗ (((c : Thread nD τ).loc cc0_stg4_0) ↦{fullShare} g))

omit [FloatOps F] in
/-- The columns of two lanes share no element. -/
theorem col_not_mem (l l' : Fin 4) (h : l' ≠ l) (y : S256x2048.Idx) : (colR l').emb y ∉ (Finset.univ : Finset S256x2048.Idx).map (colR l).emb := by
  intro hm
  obtain ⟨i, -, hi⟩ := Finset.mem_map.mp hm
  have h1 := congrArg (fun z : S256x8192.Idx => (z 1).val) hi
  have e : ∀ (l : Fin 4) (i : S256x2048.Idx), (((colR l).emb i) 1).val = 2048 * l.val + 1 * (i 1).val := fun _ _ => rfl
  have h2 : 2048 * l.val + 1 * (i 1).val = 2048 * l'.val + 1 * (y 1).val := (e l i).symm.trans (h1.trans (e l' y))
  have hi : (i 1).val < 2048 := (i 1).isLt
  have hy : (y 1).val < 2048 := (y 1).isLt
  exact h (Fin.ext (by omega))

/-- What a lane leaves: its slots, its partial buffer and its semaphores at zero. -/
def laneOut (l : Fin 4) (c : Dev nD) : sProp 𝕄 :=
  iprop((slotAny (F := F) l 0 c ∗ slotAny (F := F) l 1 c) ∗ pbAny (F := F) l c
    ∗ semVal (ssCell l 0 c) 0 ∗ semVal (ssCell l 1 c) 0 ∗ semVal (rsCell l 0 c) 0 ∗ semVal (rsCell l 1 c) 0 ∗ semVal (crCell l c) 0)

/-- A lane's turn in the last step. -/
theorem wp_lastTurn (l : Fin 4) (c : Dev nD) (K : PUnit → sProp 𝕄) :
    iprop(records m ∗ (laneIn l c 14 ∗ pbC l c (partV m l 14 c) ∗ owesE c 0 ∗ outSt m l.val c)
        ∗ ((laneOut l c ∗ owesE c 0 ∗ outSt m (l.val + 1) c) -∗ K ⟨⟩))
      ⊢ wpc F c (lastTurn oM l (aV m c)) K := by
  unfold lastTurn laneIn
  rw [bigSep_Ico_succ_bot (show 14 < 15 by decide)]
  iintro ⟨#Hrec, ⟨⟨⟨HatS, HatS', HatR, HatR', HatC⟩, -, HcS, ⟨HcR, -⟩, -, -⟩, Hp, HO, Hout⟩, Hk⟩
  iapply (wpc_bind c)
  iapply (wp_waits2 m l 14 c (by decide) 0 (Above.zero _))
  isplitr; · iexact Hrec
  isplitl [HO HatS HatR HcS HcR]
  · isplitl [HO]; · iexact HO
    isplitl [HatS]; · iexact HatS
    isplitl [HatR]; · iexact HatR
    isplitl [HcS]; · iexact HcS
    iexact HcR
  iintro ⟨HO, ⟨HatS, -⟩, ⟨HatR, -⟩, Hs, Hrv⟩
  unfold recvPay
  icases Hrv with ⟨Hv, -⟩
  simp only [Prog.lift, Prog.bind_op, Prog.bind_ret, Prog.pure_eq_ret]
  ihave #HI := (records_inv m (mem_ss l 0 c)) $$ Hrec
  icases HI with ⟨%κ₁, #HI⟩
  imod (Rounds.cell_close ER (sched m) (Set.mem_univ κ₁) (fun h => h) (R := 14 / 2 + 1) (duties_ss_later m c l 0 _ (by decide))) $$ [HatS] with HzS
  · isplitr; · iexact HI
    iexact HatS
  ihave #HI2 := (records_inv m (mem_ss l 1 c)) $$ Hrec
  icases HI2 with ⟨%κ₂, #HI2⟩
  imod (Rounds.cell_close ER (sched m) (Set.mem_univ κ₂) (fun h => h) (R := (14 + 1) / 2) (duties_ss_later m c l 1 _ (by decide))) $$ [HatS'] with HzS'
  · isplitr; · iexact HI2
    iexact HatS'
  ihave #HI3 := (records_inv m (mem_rs l 1 c)) $$ Hrec
  icases HI3 with ⟨%κ₃, #HI3⟩
  imod (Rounds.cell_close ER (sched m) (Set.mem_univ κ₃) (fun h => h) (R := 14 / 2 + 1) (duties_rs_later m c l 1 _ (by decide))) $$ [HatR] with HzR
  · isplitr; · iexact HI3
    iexact HatR
  ihave #HI4 := (records_inv m (mem_rs l 0 c)) $$ Hrec
  icases HI4 with ⟨%κ₄, #HI4⟩
  imod (Rounds.cell_close ER (sched m) (Set.mem_univ κ₄) (fun h => h) (R := (14 + 1) / 2) (duties_rs_later m c l 0 _ (by decide))) $$ [HatR'] with HzR'
  · isplitr; · iexact HI4
    iexact HatR'
  ihave #HI5 := (records_inv m (mem_cr l c)) $$ Hrec
  icases HI5 with ⟨%κ₅, #HI5⟩
  imod (Rounds.cell_close ER (sched m) (Set.mem_univ κ₅) (fun h => h) (R := 14) (duties_cr_later m c l)) $$ [HatC] with HzC
  · isplitr; · iexact HI5
    iexact HatC
  iapply (wp_slot_load l 1 c (sentV m l 14 (upD l c)))
  isplitl [Hv]; · iexact Hv
  iintro Hv
  unfold pbC owns
  icases Hp with ⟨%f, %hf, Hp⟩
  iapply (wp_load 𝒱₀ (c : Thread nD τ) none Set.univ (m := pbM l) (r := pbR.toLoadRect) (View.setOn_subset_set _ _)) $$ Hp
  iintro Hp
  rw [pb_read, hf]
  unfold outSt
  icases Hout with ⟨%g, %hg, Hout⟩
  iapply (wp_load 𝒱₀ (c : Thread nD τ) none Set.univ (m := oM) (Finset.subset_univ _)) $$ Hout
  iintro Hout
  iapply (wp_store 𝒱₀ (c : Thread nD τ) none Set.univ (m := oM) (r := colR l) (Mk := Finset.univ) (Finset.subset_univ _)) $$ Hout
  iintro Hout
  iapply (wpc_ret c)
  iapply Hk
  isplitl [Hs Hv Hp HzS HzS' HzR HzR' HzC]
  · unfold laneOut
    isplitl [Hs Hv]
    · isplitl [Hs]; · iexact Hs
      unfold slotAny; iexists _; iexact Hv
    isplitl [Hp]
    · unfold pbAny pbC owns; iexists _, f; isplitr; · (ipureintro; exact hf)
      iexact Hp
    isplitl [HzS]; · iexact HzS
    isplitl [HzS']; · iexact HzS'
    isplitl [HzR']; · iexact HzR'
    isplitl [HzR]; · iexact HzR
    iexact HzC
  isplitl [HO]; · iexact HO
  iexists ((oM.access (colR l)).write (Elt F) g (outL m l c) Finset.univ)
  isplitr
  · ipureintro
    intro l' hl'
    by_cases h : l' = l
    · subst h
      exact View.read_write_univ _ _
    · have hlt : l'.val < l.val := by
        have : l'.val ≠ l.val := fun e => h (Fin.ext e)
        omega
      rw [← hg l' hlt]
      funext y
      exact View.read_slice_write_of_not_mem (v := oM.view) (colR l) g _ Finset.univ (y := (colR l').emb y)
        (col_not_mem l l' h y)
  iexact Hout

/-! ## A step of the four lanes -/

variable (c : Dev nD)

/-- What a device owes when its lanes stand at the steps `a b e f`. -/
def OO (a b e f : ℕ) : CellTallies nD τ sig ℕ := Ow 0 (a + 1) a c + Ow 1 (b + 1) b c + Ow 2 (e + 1) e c + Ow 3 (f + 1) f c

/-- The buffers of a step: the block of x, the widened weights, the four partial buffers. -/
def bufs : sProp 𝕄 :=
  iprop(xC m c ∗ wbC m c ∗ pbAny (F := F) 0 c ∗ pbAny (F := F) 1 c ∗ pbAny (F := F) 2 c ∗ pbAny (F := F) 3 c)
/-- The buffers after the partial products of step `t`. -/
def bufsAt (t : Fin 15) : sProp 𝕄 :=
  iprop(xC m c ∗ wbC m c ∗ pbC 0 c (partV m 0 t c) ∗ pbC 1 c (partV m 1 t c) ∗ pbC 2 c (partV m 2 t c) ∗ pbC 3 c (partV m 3 t c))
/-- A device before step `t`. -/
def stepSt (t : ℕ) : sProp 𝕄 :=
  iprop((laneIn (F := F) 0 c t ∗ laneIn (F := F) 1 c t ∗ laneIn (F := F) 2 c t ∗ laneIn (F := F) 3 c t) ∗ bufs m c ∗ owesE c (OO c t t t t))

/-- The four partial products of a step. -/
theorem wp_partials (t : Fin 15) (K : PUnit → sProp 𝕄) :
    iprop(bufs m c ∗ (bufsAt m c t -∗ K ⟨⟩)) ⊢ wpc F c (partials xM t c) K := by
  unfold partials bufs bufsAt
  iintro ⟨⟨Hx, Hw, H0, H1, H2, H3⟩, Hk⟩
  iapply (wpc_bind c)
  iapply (wp_partial m 0 c t)
  isplitl [Hx Hw H0]
  · isplitl [Hx]; · iexact Hx
    isplitl [Hw]; · iexact Hw
    iexact H0
  iintro ⟨Hx, Hw, H0⟩
  iapply (wpc_bind c)
  iapply (wp_partial m 1 c t)
  isplitl [Hx Hw H1]
  · isplitl [Hx]; · iexact Hx
    isplitl [Hw]; · iexact Hw
    iexact H1
  iintro ⟨Hx, Hw, H1⟩
  iapply (wpc_bind c)
  iapply (wp_partial m 2 c t)
  isplitl [Hx Hw H2]
  · isplitl [Hx]; · iexact Hx
    isplitl [Hw]; · iexact Hw
    iexact H2
  iintro ⟨Hx, Hw, H2⟩
  iapply (wp_partial m 3 c t)
  isplitl [Hx Hw H3]
  · isplitl [Hx]; · iexact Hx
    isplitl [Hw]; · iexact Hw
    iexact H3
  iintro ⟨Hx, Hw, H3⟩
  iapply Hk
  isplitl [Hx]; · iexact Hx
  isplitl [Hw]; · iexact Hw
  isplitl [H0]; · iexact H0
  isplitl [H1]; · iexact H1
  isplitl [H2]; · iexact H2
  iexact H3

/-- A lane's turn with the other lanes' debts beside it. -/
theorem wp_turnO (l : Fin 4) (t : ℕ) (ht : t < 14) (O O' R : CellTallies nD τ sig ℕ) (hO : O = R + Ow l (t + 1) t c) (hO' : O' = R + Ow l (t + 1 + 1) (t + 1) c)
    (hR : Above (8 * t + 2 * l.val + 3) R) (K : PUnit → sProp 𝕄) :
    iprop(records m ∗ (laneIn l c t ∗ pbC l c (partV m l (f15 t) c) ∗ owesE c O)
        ∗ ((laneIn l c (t + 1) ∗ pbAny (F := F) l c ∗ owesE c O') -∗ K ⟨⟩))
      ⊢ wpc F c (turn l t c) K := by
  subst hO; subst hO'; exact wp_turn m l c t ht R hR K

theorem above_ow (l' : Fin 4) (n a b : ℕ) (ha : n ≤ 8 * a + 2 * l'.val + 1) (hb : n ≤ 8 * b + 2 * l'.val + 2) : Above n (Ow l' a b c) :=
  (Above.ow l' a b c (n := n) (by omega) (by omega))

/-- A step before the last takes a device from step `t` to step `t + 1`. -/
theorem wp_step (t : Fin 15) (ht : t.val < 14) (K : PUnit → sProp 𝕄) :
    iprop(records m ∗ stepSt m c t.val ∗ (stepSt m c (t.val + 1) -∗ K ⟨⟩)) ⊢ wpc F c (step xM t c) K := by
  unfold step
  iintro ⟨#Hrec, Hst, Hk⟩
  unfold stepSt
  icases Hst with ⟨⟨L0, L1, L2, L3⟩, Hb, HO⟩
  iapply (wpc_bind c)
  iapply (wp_partials m c t)
  isplitl [Hb]; · iexact Hb
  unfold bufsAt
  iintro ⟨Hx, Hw, H0, H1, H2, H3⟩
  iapply (wpc_bind c)
  iapply (wp_turnO m c 0 t.val ht (OO c t t t t) (OO c (t + 1) t t t) (Ow 1 (t + 1) t c + Ow 2 (t + 1) t c + Ow 3 (t + 1) t c)
    (by unfold OO; ac_rfl) (by unfold OO; ac_rfl) (((above_ow c 1 _ _ _ (by omega) (by omega)).add (above_ow c 2 _ _ _ (by omega) (by omega))).add (above_ow c 3 _ _ _ (by omega) (by omega))))
  isplitr; · iexact Hrec
  isplitl [L0 H0 HO]
  · rw [f15_eq]
    isplitl [L0]; · iexact L0
    isplitl [H0]; · iexact H0
    iexact HO
  iintro ⟨L0, H0, HO⟩
  iapply (wpc_bind c)
  iapply (wp_turnO m c 1 t.val ht (OO c (t + 1) t t t) (OO c (t + 1) (t + 1) t t) (Ow 0 (t + 1 + 1) (t + 1) c + Ow 2 (t + 1) t c + Ow 3 (t + 1) t c)
    (by unfold OO; ac_rfl) (by unfold OO; ac_rfl) (((above_ow c 0 _ _ _ (by omega) (by omega)).add (above_ow c 2 _ _ _ (by omega) (by omega))).add (above_ow c 3 _ _ _ (by omega) (by omega))))
  isplitr; · iexact Hrec
  isplitl [L1 H1 HO]
  · rw [f15_eq]
    isplitl [L1]; · iexact L1
    isplitl [H1]; · iexact H1
    iexact HO
  iintro ⟨L1, H1, HO⟩
  iapply (wpc_bind c)
  iapply (wp_turnO m c 2 t.val ht (OO c (t + 1) (t + 1) t t) (OO c (t + 1) (t + 1) (t + 1) t) (Ow 0 (t + 1 + 1) (t + 1) c + Ow 1 (t + 1 + 1) (t + 1) c + Ow 3 (t + 1) t c)
    (by unfold OO; ac_rfl) (by unfold OO; ac_rfl) (((above_ow c 0 _ _ _ (by omega) (by omega)).add (above_ow c 1 _ _ _ (by omega) (by omega))).add (above_ow c 3 _ _ _ (by omega) (by omega))))
  isplitr; · iexact Hrec
  isplitl [L2 H2 HO]
  · rw [f15_eq]
    isplitl [L2]; · iexact L2
    isplitl [H2]; · iexact H2
    iexact HO
  iintro ⟨L2, H2, HO⟩
  iapply (wp_turnO m c 3 t.val ht (OO c (t + 1) (t + 1) (t + 1) t) (OO c (t + 1) (t + 1) (t + 1) (t + 1)) (Ow 0 (t + 1 + 1) (t + 1) c + Ow 1 (t + 1 + 1) (t + 1) c + Ow 2 (t + 1 + 1) (t + 1) c)
    (by unfold OO; ac_rfl) (by unfold OO; ac_rfl) (((above_ow c 0 _ _ _ (by omega) (by omega)).add (above_ow c 1 _ _ _ (by omega) (by omega))).add (above_ow c 2 _ _ _ (by omega) (by omega))))
  isplitr; · iexact Hrec
  isplitl [L3 H3 HO]
  · rw [f15_eq]
    isplitl [L3]; · iexact L3
    isplitl [H3]; · iexact H3
    iexact HO
  iintro ⟨L3, H3, HO⟩
  iapply Hk
  isplitl [L0 L1 L2 L3]
  · isplitl [L0]; · iexact L0
    isplitl [L1]; · iexact L1
    isplitl [L2]; · iexact L2
    iexact L3
  isplitr [HO]
  · unfold bufs
    isplitl [Hx]; · iexact Hx
    isplitl [Hw]; · iexact Hw
    isplitl [H0]; · iexact H0
    isplitl [H1]; · iexact H1
    isplitl [H2]; · iexact H2
    iexact H3
  iexact HO

/-- The last `n` steps before the last one. -/
theorem wp_steps (rest : Pg F PUnit) (K : PUnit → sProp 𝕄) : ∀ (n : ℕ) (h : n ≤ 15) (hn : n ≤ 14),
    iprop(records m ∗ stepSt m c (14 - n) ∗ (stepSt m c 14 -∗ wpc F c rest K)) ⊢ wpc F c (steps xM c rest n h) K
  | 0, _, _ => by
    unfold steps
    iintro ⟨-, Hst, Hk⟩
    iapply Hk; iexact Hst
  | n + 1, h, hn => by
    unfold steps
    iintro ⟨#Hrec, Hst, Hk⟩
    iapply (wpc_bind c)
    iapply (wp_step m c ⟨14 - n.succ, _⟩ (by show 14 - n.succ < 14; omega))
    isplitr; · iexact Hrec
    isplitl [Hst]; · iexact Hst
    iintro Hst
    iapply (wp_steps rest K n _ (by omega))
    isplitr; · iexact Hrec
    isplitl [Hst]
    · rw [show 14 - n = 14 - n.succ + 1 by omega]; iexact Hst
    iexact Hk

/-- A device after its last step. -/
def lastSt : sProp 𝕄 :=
  iprop((laneOut (F := F) 0 c ∗ laneOut (F := F) 1 c ∗ laneOut (F := F) 2 c ∗ laneOut (F := F) 3 c) ∗ (xC m c ∗ wbC m c) ∗ owesE c 0 ∗ outSt m 4 c)

/-- The last step: every lane's columns of the result, and nothing owed. -/
theorem wp_lastStep (K : PUnit → sProp 𝕄) :
    iprop(records m ∗ (stepSt m c 14 ∗ outSt m 0 c) ∗ (lastSt m c -∗ K ⟨⟩)) ⊢ wpc F c (lastStep xM oM c (aV m c)) K := by
  unfold lastStep
  iintro ⟨#Hrec, ⟨Hst, Ho⟩, Hk⟩
  unfold stepSt
  icases Hst with ⟨⟨L0, L1, L2, L3⟩, Hb, HO⟩
  iapply (wpc_bind c)
  iapply (wp_partials m c 14)
  isplitl [Hb]; · iexact Hb
  unfold bufsAt
  iintro ⟨Hx, Hw, H0, H1, H2, H3⟩
  rw [show OO c 14 14 14 14 = 0 by unfold OO; rw [Ow_end, Ow_end, Ow_end, Ow_end, add_zero, add_zero, add_zero]]
  iapply (wpc_bind c)
  iapply (wp_lastTurn m 0 c)
  isplitr; · iexact Hrec
  isplitl [L0 H0 HO Ho]
  · isplitl [L0]; · iexact L0
    isplitl [H0]; · iexact H0
    isplitl [HO]; · iexact HO
    iexact Ho
  iintro ⟨L0, HO, Ho⟩
  iapply (wpc_bind c)
  iapply (wp_lastTurn m 1 c)
  isplitr; · iexact Hrec
  isplitl [L1 H1 HO Ho]
  · isplitl [L1]; · iexact L1
    isplitl [H1]; · iexact H1
    isplitl [HO]; · iexact HO
    iexact Ho
  iintro ⟨L1, HO, Ho⟩
  iapply (wpc_bind c)
  iapply (wp_lastTurn m 2 c)
  isplitr; · iexact Hrec
  isplitl [L2 H2 HO Ho]
  · isplitl [L2]; · iexact L2
    isplitl [H2]; · iexact H2
    isplitl [HO]; · iexact HO
    iexact Ho
  iintro ⟨L2, HO, Ho⟩
  iapply (wp_lastTurn m 3 c)
  isplitr; · iexact Hrec
  isplitl [L3 H3 HO Ho]
  · isplitl [L3]; · iexact L3
    isplitl [H3]; · iexact H3
    isplitl [HO]; · iexact HO
    iexact Ho
  iintro ⟨L3, HO, Ho⟩
  iapply Hk
  unfold lastSt
  isplitl [L0 L1 L2 L3]
  · isplitl [L0]; · iexact L0
    isplitl [L1]; · iexact L1
    isplitl [L2]; · iexact L2
    iexact L3
  isplitl [Hx Hw]
  · isplitl [Hx]; · iexact Hx
    iexact Hw
  isplitl [HO]; · iexact HO
  iexact Ho

end Cert.LaneProof

end
-- ==== Proof.Open.lean ====
/- The beginning of the body: the handshake, the widened weights, the first sums and the first transfers. -/
module

public import proofs.«01_k».proof.Proof.Steps

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A two-slot buffer and its slots -/

theorem slotR_mem (p : Fin 2) (y : S1x256x2048.Idx) : ((slotR p).emb y 0).val = p.val := by
  have h : ((slotR p).emb y 0).val = p.val + 1 * (y 0).val := rfl
  have h0 : (y 0).val < 1 := (y 0).isLt
  omega
theorem slotR_disjoint : Disjoint (slotR 0).set (slotR 1).set := by
  rw [Finset.disjoint_left]
  intro x hx hx'
  rw [← Rect.map_emb_univ] at hx hx'
  obtain ⟨y, -, rfl⟩ := Finset.mem_map.mp hx
  obtain ⟨z, -, hz⟩ := Finset.mem_map.mp hx'
  have h := slotR_mem 1 z
  rw [hz, slotR_mem 0 y] at h
  exact absurd h (by decide)
theorem slotR_cover : (slotR 0).set ∪ (slotR 1).set = Finset.univ := by
  refine Finset.eq_univ_iff_forall.mpr fun x => ?_
  have key : ∀ p : Fin 2, (x 0).val = p.val → x ∈ (slotR p).set := by
    intro p hp
    rw [← Rect.map_emb_univ]
    refine Finset.mem_map.mpr ⟨(fun a => match a with | ⟨0, _⟩ => ⟨0, Nat.one_pos⟩ | ⟨1, _⟩ => x 1 | ⟨2, _⟩ => x 2), Finset.mem_univ _, funext fun a => Fin.ext ?_⟩
    match a with
    | ⟨0, _⟩ => exact (Nat.add_zero _).trans hp.symm
    | ⟨1, _⟩ => show 0 + 1 * (x 1).val = (x 1).val; omega
    | ⟨2, _⟩ => show 0 + 1 * (x 2).val = (x 2).val; omega
  have hx : (x 0).val < 2 := (x 0).isLt
  rcases (show (x 0).val = 0 ∨ (x 0).val = 1 by omega) with h | h
  · exact Finset.mem_union_left _ (key 0 h)
  · exact Finset.mem_union_right _ (key 1 h)

theorem slotM_set (l : Fin 4) (p : Fin 2) : (slotM l p).view.set = (slotR p).set.map (commM l).view.emb :=
  (slot_set l p).trans (View.set_slice _ _)
theorem slots_disjoint (l : Fin 4) : Disjoint (slotM l 0).view.set (slotM l 1).view.set := by
  rw [slotM_set, slotM_set]; exact (Finset.disjoint_map _).mpr slotR_disjoint
theorem slots_cover (l : Fin 4) : (slotM l 0).view.set ∪ (slotM l 1).view.set = (commM l).view.set := by
  rw [slotM_set, slotM_set, ← Finset.map_union, slotR_cover]; rfl

/-- A lane's two-slot buffer, holding anything. -/
def commAny (l : Fin 4) (c : Dev nD) : sProp 𝕄 := iprop(∃ f, (commM l).view.loc (c : Thread nD τ) ↦[(commM l).view.set]{fullShare} f)

omit [FloatOps F] in
/-- It is its two slots, -/
theorem comm_split (l : Fin 4) (c : Dev nD) : commAny (F := F) l c ⊢ iprop(slotAny (F := F) l 0 c ∗ slotAny (F := F) l 1 c) := by
  unfold commAny slotAny slotC owns
  iintro ⟨%f, H⟩
  rw [← slots_cover l]
  ihave H' := (pointsTo_union (slots_disjoint l)).1 $$ H
  icases H' with ⟨H0, H1⟩
  isplitl [H0]
  · iexists _, f; isplitr; · (ipureintro; rfl)
    iexact H0
  · iexists _, f; isplitr; · (ipureintro; rfl)
    iexact H1
omit [FloatOps F] in
/-- and back. -/
theorem comm_join (l : Fin 4) (c : Dev nD) : iprop(slotAny (F := F) l 0 c ∗ slotAny (F := F) l 1 c) ⊢ commAny (F := F) l c := by
  unfold commAny slotAny slotC owns
  iintro ⟨⟨%V, %f, -, H0⟩, ⟨%V', %g, -, H1⟩⟩
  rw [← slots_cover l]
  iexists _
  iapply (pointsTo_join (slots_disjoint l))
  isplitl [H0]; · iexact H0
  iexact H1

variable (m : (ℓ : Loc nD τ sig) → Buf (Elt F) ℓ) (c : Dev nD)

/-! ## The handshake -/

/-- What a device's handshake takes: its barrier's position and credit, the two duties it pays, its four second slots. -/
def handIn : sProp 𝕄 :=
  iprop(atPos ER (barCell c) 0 ∅ 0 ∗ cred (tallyAt (barCell c) 0 2) ∗ dutyTok ER (barCell (lfD c)) 0 true ∗ dutyTok ER (barCell (rtD c)) 0 false
    ∗ slotAny (F := F) 0 1 c ∗ slotAny (F := F) 1 1 c ∗ slotAny (F := F) 2 1 c ∗ slotAny (F := F) 3 1 c)
/-- What it gives: its barrier closed, the second slots of the devices downstream. -/
def handOut : sProp 𝕄 :=
  iprop(semVal (barCell c) 0 ∗ slotAny (F := F) 0 1 (dnD 0 c) ∗ slotAny (F := F) 1 1 (dnD 1 c) ∗ slotAny (F := F) 2 1 (dnD 2 c) ∗ slotAny (F := F) 3 1 (dnD 3 c))

omit [FloatOps F] in
theorem barPay_true (d : Dev nD) : barPay (F := F) true d = iprop(slotAny (F := F) 0 1 (dnD 0 d) ∗ slotAny (F := F) 1 1 (dnD 1 d)) := rfl
omit [FloatOps F] in
theorem barPay_false (d : Dev nD) : barPay (F := F) false d = iprop(slotAny (F := F) 2 1 (dnD 2 d) ∗ slotAny (F := F) 3 1 (dnD 3 d)) := rfl

/-- The handshake: both neighbours are told, both have been heard. -/
theorem wp_handshake (K : Dev nD → sProp 𝕄) :
    iprop(records m ∗ (handIn (F := F) c ∗ owesE c (O₀ c)) ∗ ((handOut (F := F) c ∗ owesE c (O₁ c)) -∗ K c)) ⊢ wpc F c (handshake (F := F)) K := by
  unfold handshake
  simp only [semSignalWord, semWaitWord, Prog.lift, Prog.bind_op, Prog.bind_ret, Prog.pure_eq_ret, wpc, wp_deviceId]
  unfold handIn owesE
  iintro ⟨#Hrec, ⟨⟨Hat, Hc, HtL, HtR, S0, S1, S2, S3⟩, ⟨%W, HO⟩⟩, Hk⟩
  ihave #HIL := (records_inv m (mem_bar (lfD c))) $$ Hrec
  icases HIL with ⟨%κ₁, #HIL⟩
  ihave #HIR := (records_inv m (mem_bar (rtD c))) $$ Hrec
  icases HIR with ⟨%κ₂, #HIR⟩
  ihave #HIC := (records_inv m (mem_bar c)) $$ Hrec
  icases HIC with ⟨%κ₃, #HIC⟩
  ihave #Hlev := (records_lev m) $$ Hrec
  ihave #HrL := (records_reached m (mem_bar (lfD c))) $$ Hrec
  ihave #HrR := (records_reached m (mem_bar (rtD c))) $$ Hrec
  iapply (Rounds.wp_signal 𝒱₀ ER (sched m) (c : Thread nD τ) none (dst := (lfD c : Thread nD τ)) (κ := κ₁) (r := 0)
      (d := true) (by rw [duties_bar]; exact Finset.mem_univ _) ((amount_bar m (lfD c) 0 true).trans (by decide)) 0 (O₁ c + tallyAt (barCell (rtD c)) 0 1) rfl)
    $$ [HO HtL S0 S1]
  · isplitr; · iexact HIL
    isplitl [HO]; · iexact HO
    isplitl [HtL]; · iexact HtL
    isplitl [S0 S1]
    · rw [payload_bar, barPay_true, show dnD 0 (lfD c) = c from rt_lf c, show dnD 1 (lfD c) = c from rt_lf c]
      isplitl [S0]; · iexact S0
      iexact S1
    · iexact HrL
  iintro HO
  iapply (Rounds.wp_signal 𝒱₀ ER (sched m) (c : Thread nD τ) none (dst := (rtD c : Thread nD τ)) (κ := κ₂) (r := 0)
      (d := false) (by rw [duties_bar]; exact Finset.mem_univ _) ((amount_bar m (rtD c) 0 false).trans (by decide)) 0 (O₁ c) rfl)
    $$ [HO HtR S2 S3]
  · isplitr; · iexact HIR
    isplitl [HO]; · iexact HO
    isplitl [HtR]; · iexact HtR
    isplitl [S2 S3]
    · rw [payload_bar, barPay_false, show dnD 2 (rtD c) = c from lf_rt c, show dnD 3 (rtD c) = c from lf_rt c]
      isplitl [S2]; · iexact S2
      iexact S3
    · iexact HrR
  iintro HO
  iapply (Rounds.wp_wait_rest_token 𝒱₀ ER (sched m) (c : Thread nD τ) none (κ := κ₃)
      (wpE_semWait_eq 𝒱₀ (c : Thread nD τ) none Set.univ) (Set.mem_univ _) 0 (O := O₁ c) (W := W) (R := 0) (m := 0) (T := ∅)
      (by rw [expect_bar m c]; decide)) $$ [Hc HO Hat]
  · isplitr; · iexact HIC
    isplitl [Hc]; · iexact Hc
    isplitl [HO]; · iexact HO
    isplitr
    · iapply (mayWait c (.reg baS) 0 1 (O₁ c) (by omega) (by rw [lv_bar]) (above_O₁ c)); iexact Hlev
    iexact Hat
  iintro ⟨HO, Hat, -, Hpay⟩
  ihave Hp := (Entails.of_eq (rest_bar m c)) $$ Hpay
  rw [barPay_true, barPay_false]
  icases Hp with ⟨⟨D2, D3⟩, D0, D1⟩
  imod (Rounds.cell_close ER (sched m) (Set.mem_univ κ₃) (fun h => h) (R := 0 + 1) (duties_bar_later m c)) $$ [Hat] with Hz
  · isplitr; · iexact HIC
    iexact Hat
  iapply (wpc_ret c)
  iapply Hk
  unfold handOut
  isplitr [HO]
  · isplitl [Hz]; · iexact Hz
    isplitl [D0]; · iexact D0
    isplitl [D1]; · iexact D1
    isplitl [D2]; · iexact D2
    iexact D3
  iexists _; iexact HO

/-! ## The weights and the scales -/

/-- The staged weights. -/
def wC : sProp 𝕄 := ((c : Thread nD τ).loc cc0_stg1_0) ↦{fullShare} wstg m c
/-- The staged scales. -/
def sC : sProp 𝕄 := iprop((((c : Thread nD τ).loc cc0_stg2_0) ↦{fullShare} sxstg m c) ∗ (((c : Thread nD τ).loc cc0_stg3_0) ↦{fullShare} systg m c))

theorem hz2 : (![0, 0] : Fin 2 → Nat) = fun _ => 0 := funext fun a => by fin_cases a <;> rfl

/-- The weights, widened into the scratch. -/
theorem wp_widen (K : PUnit → sProp 𝕄) :
    iprop((wC m c ∗ ∃ f : Buf (Elt F) ((c : Thread nD τ).loc cc0_scratch0), ((c : Thread nD τ).loc cc0_scratch0) ↦{fullShare} f) ∗ ((wC m c ∗ wbC m c) -∗ K ⟨⟩)) ⊢ wpc F c (widen wM) K := by
  unfold widen
  simp only [Prog.lift, Prog.bind_op, Prog.bind_ret, Prog.pure_eq_ret]
  unfold wC wbC
  iintro ⟨⟨Hw, ⟨%f, Hb⟩⟩, Hk⟩
  iapply (wp_load 𝒱₀ (c : Thread nD τ) none Set.univ (m := wM) (Finset.subset_univ _)) $$ Hw
  iintro Hw
  rw [show (wM.view.readAt (Elt F) (Rect.unit (s := S256x8192) ![0, 0] S256x8192.size inb_S256x8192_S256x8192_0_0).toLoadRect (wstg m c)) = wstg m c from
    Memref.readAt_unit_zero (Elt F) cc0_stg1_0 hz2 _ _]
  iapply (wp_load 𝒱₀ (c : Thread nD τ) none Set.univ (m := wbfM) (Finset.subset_univ _)) $$ Hb
  iintro Hb
  iapply (wp_store 𝒱₀ (c : Thread nD τ) none Set.univ (m := wbfM) (r := Rect.unit (s := S256x8192) ![0, 0] S256x8192.size inb_S256x8192_S256x8192_0_0) (Mk := Finset.univ) (Finset.subset_univ _)) $$ Hb
  iintro Hb
  rw [show View.write (Elt F) (wbfM.access (Rect.unit (s := S256x8192) ![0, 0] S256x8192.size inb_S256x8192_S256x8192_0_0)) f (k0_pay2 (wstg m c)) Finset.univ = wbfV m c from
    Memref.write_access_unit_zero_univ (Elt F) cc0_scratch0 hz2 _ f _]
  iapply (wpc_ret c)
  iapply Hk
  isplitl [Hw]; · iexact Hw
  iexact Hb

/-- A scale, read from scalar memory. -/
theorem wp_smem (M : Memref sig .tc .smem S1 .f32) (r : Rect S1) (h1 : r.shape.numel = 1) (hs : EltTy.packing .f32 = 1) (f : M.view.ty.Contents (Elt F)) (K : F .f32 → sProp 𝕄) :
    iprop((M.view.loc (c : Thread nD τ) ↦{fullShare} f)
        ∗ ((M.view.loc (c : Thread nD τ) ↦{fullShare} f) -∗ K (M.view.readAt (Elt F) r.toLoadRect f (Shape.Idx.first (h1.symm ▸ Nat.one_pos)))))
      ⊢ wp frame (wpE (defs₀ (F := F)) 𝒱₀ (c : Thread nD τ) none) Set.univ (smemLoad M r h1 hs : Pg F (F .f32)) K := by
  unfold smemLoad
  simp only [Prog.lift, Prog.bind_op, Prog.bind_ret, Prog.pure_eq_ret]
  iintro ⟨H, Hk⟩
  iapply (wp_load 𝒱₀ (c : Thread nD τ) none Set.univ (m := M) (Finset.subset_univ _)) $$ H
  iintro H
  rw [wp_ret]
  imodintro
  iapply Hk; iexact H

/-- The product of the scales, read. -/
theorem wp_scales (K : F .f32 → sProp 𝕄) :
    iprop(sC m c ∗ (sC m c -∗ K (aV m c))) ⊢ wpc F c (scales (Memref.whole cc0_stg2_0) (Memref.whole cc0_stg3_0)) K := by
  unfold scales sC aV
  iintro ⟨⟨H2, H3⟩, Hk⟩
  iapply (wpc_bind c)
  iapply (wp_smem c (Memref.whole cc0_stg2_0) _ _ _ (sxstg m c))
  isplitl [H2]; · iexact H2
  iintro H2
  iapply (wpc_bind c)
  iapply (wp_smem c (Memref.whole cc0_stg3_0) _ _ _ (systg m c))
  isplitl [H3]; · iexact H3
  iintro H3
  iapply (wpc_ret c)
  iapply Hk
  isplitl [H2]; · iexact H2
  iexact H3

/-! ## The first transfers -/

/-- A lane at the start: its positions, its credits and its duties. -/
def laneStart (l : Fin 4) : sProp 𝕄 :=
  iprop((atPos ER (ssCell l 0 c) 0 ∅ 0 ∗ atPos ER (ssCell l 1 c) 0 ∅ 0 ∗ atPos ER (rsCell l 1 c) 0 ∅ 0 ∗ atPos ER (rsCell l 0 c) 0 ∅ 0 ∗ atPos ER (crCell l c) 0 ∅ 0)
    ∗ (bigSep (Finset.Ico 0 15) fun s => cred (tallyAt (rsCell l (par (s + 1)) c) s N))
    ∗ bigSep (Finset.Ico 0 15) (payX (F := F) l c)
    ∗ (bigSep (Finset.Ico 0 14) fun s => iprop(cred (tallyAt (crCell l c) s 1) ∗ dutyTok ER (crCell l (upD l c)) s false)))

/-- A lane's first transfer. -/
theorem wp_send0 (l : Fin 4) (O O' R : CellTallies nD τ sig ℕ) (hO : O = R + Ow l 0 0 c) (hO' : O' = R + Ow l 1 0 c) (K : PUnit → sProp 𝕄) :
    iprop(records m ∗ (laneStart (F := F) c l ∗ slotC l 0 c (sentV m l 0 c) ∗ slotAny (F := F) l 1 (dnD l c) ∗ owesE c O)
        ∗ ((laneIn (F := F) l c 0 ∗ owesE c O') -∗ K ⟨⟩))
      ⊢ wpc F c (send l 0 c) K := by
  subst hO; subst hO'
  have hO : R + Ow l 0 0 c = (R + Ow l 1 0 c) + tallyAt (rsCell l (par 1) (dnD l c)) 0 N := by
    unfold Ow; rw [OwR_cons l 0 c (by decide)]; ac_rfl
  unfold laneStart laneIn
  rw [bigSep_Ico_succ_bot (show 0 < 15 by decide) (payX (F := F) l c)]
  unfold payX
  iintro ⟨#Hrec, ⟨⟨Hats, Hrc, ⟨⟨HtS, HtR⟩, Hts⟩, Hcs⟩, Hs, Hd, HO⟩, Hk⟩
  ihave #H1 := (records_reached m (mem_ss l 0 c)) $$ Hrec
  ihave #H2 := (records_reached m (mem_rs l 1 (dnD l c))) $$ Hrec
  ihave #H3 := (records_reached m (mem_cr l c)) $$ Hrec
  ihave #H4 := (records_reached m (mem_ss l 1 c)) $$ Hrec
  ihave #H5 := (records_reached m (mem_rs l 0 c)) $$ Hrec
  iapply (wp_send_lane m l 0 c (by decide) (R + Ow l 1 0 c))
  isplitr; · iexact Hrec
  isplitl [Hs Hd HO HtS HtR]
  · isplitl [Hs]; · iexact Hs
    isplitl [Hd]; · iexact Hd
    isplitl [HO]; · rw [hO]; iexact HO
    isplitl [HtS]; · iexact HtS
    isplitr; · iexact H1
    isplitl [HtR]; · iexact HtR
    isplitr; · iexact H2
    iexact H3
  iintro ⟨HcS, HO⟩
  iapply Hk
  isplitr [HO]
  · isplitl [Hats]; · iexact Hats
    isplitr
    · isplitr; · iexact H4
      iexact H5
    isplitl [HcS]; · iexact HcS
    isplitl [Hrc]; · iexact Hrc
    isplitl [Hts]; · iexact Hts
    iexact Hcs
  iexact HO

end Cert.LaneProof

end
-- ==== Proof.BodyEq.lean ====
/- The printed body is the sequence of lanes and steps. -/
module

public import proofs.«01_k».proof.Proof.Prog

@[expose] public section

set_option maxRecDepth 65536
set_option maxHeartbeats 1000000

noncomputable section

namespace Cert.LaneProof

open Cert.KernelIdeal Cert.KernelIdeal.Gen
open Idealize.ShloMosaic Idealize.SL.Sem

universe v

variable {F : FTy → Type} [FloatOps F]

/-- A program rebuilt from its effects in order: the same program (`runL_eq`). -/
def runL {E : Type → Type v} {α : Type} (p : Prog E α) : Prog E α :=
  Prog.rec (motive := fun _ => Prog E α) (fun a => .ret a) (fun e _ ih => .op e ih) p
/-- The same function under another name. -/
def runR {E : Type → Type v} {α : Type} (p : Prog E α) : Prog E α :=
  Prog.rec (motive := fun _ => Prog E α) (fun a => .ret a) (fun e _ ih => .op e ih) p

theorem runL_eq {E : Type → Type v} {α : Type} (p : Prog E α) : runL p = p := by
  induction p with
  | ret a => rfl
  | op e c ih => exact congrArg (Prog.op e) (funext ih)
theorem runR_eq {E : Type → Type v} {α : Type} (p : Prog E α) : runR p = p := by
  induction p with
  | ret a => rfl
  | op e c ih => exact congrArg (Prog.op e) (funext ih)

/-- The printed body and the sequence of lanes and steps request the same effects in the same order. -/
theorem body_run (x : Memref sig .tc .vmem S4096x256 .fp8e4m3) (hx : x.IsWhole) (w : Memref sig .tc .vmem S256x8192 .fp8e5m2) (hw : w.IsWhole)
    (sx : Memref sig .tc .smem S1 .f32) (hsx : sx.IsWhole) (sy : Memref sig .tc .smem S1 .f32) (hsy : sy.IsWhole)
    (o : Memref sig .tc .vmem S256x8192 .f32) (ho : o.IsWhole) :
    runL (cc0_body (F := F) x hx w hw sx hsx sy hsy o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17)
      = runR (body (F := F) x w sx sy o) := rfl

/-- At every grid point the pipeline calls the sequence of lanes and steps. -/
theorem bodyAt_eq (t : Fin cfg0.N) : bodyAt0 (F := F) t = body (F := F) (st0_0 t) (st0_1 t) (st0_2 t) (st0_3 t) (st0_4 t) :=
  ((runL_eq _).symm.trans (body_run _ _ _ _ _ _ _ _ _ _)).trans (runR_eq _)

end Cert.LaneProof

end
-- ==== Proof.Body.lean ====
/- The whole body on one device, and the obligation that the pipeline's launch asks for. -/
module

public import proofs.«01_k».proof.Proof.Open
public import proofs.«01_k».proof.Proof.BodyEq

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-! ## The opening -/

/-- The four lanes at the start. -/
def lanesStart : sProp 𝕄 :=
  iprop(laneStart (F := F) c 0 ∗ laneStart (F := F) c 1 ∗ laneStart (F := F) c 2 ∗ laneStart (F := F) c 3)
/-- The second slots downstream. -/
def downs : sProp 𝕄 :=
  iprop(slotAny (F := F) 0 1 (dnD 0 c) ∗ slotAny (F := F) 1 1 (dnD 1 c) ∗ slotAny (F := F) 2 1 (dnD 2 c) ∗ slotAny (F := F) 3 1 (dnD 3 c))
/-- A device's own slots `p`. -/
def owns4 (p : Fin 2) : sProp 𝕄 :=
  iprop(slotAny (F := F) 0 p c ∗ slotAny (F := F) 1 p c ∗ slotAny (F := F) 2 p c ∗ slotAny (F := F) 3 p c)
/-- The partial buffers, holding anything. -/
def parts : sProp 𝕄 :=
  iprop(pbAny (F := F) 0 c ∗ pbAny (F := F) 1 c ∗ pbAny (F := F) 2 c ∗ pbAny (F := F) 3 c)
/-- The scratch for the widened weights, holding anything. -/
def wbAny : sProp 𝕄 := iprop(∃ f : Buf (Elt F) ((c : Thread nD τ).loc cc0_scratch0), ((c : Thread nD τ).loc cc0_scratch0) ↦{fullShare} f)

/-- The first sums of the four lanes and their transfers. -/
theorem wp_opening (K : F .f32 → sProp 𝕄) :
    iprop(records m ∗ (lanesStart (F := F) c ∗ downs (F := F) c ∗ owns4 (F := F) c 0 ∗ parts (F := F) c ∗ wbAny (F := F) c ∗ xC m c ∗ wC m c ∗ sC m c ∗ owesE c (O₁ c))
        ∗ ((stepSt m c 0 ∗ wC m c ∗ sC m c) -∗ K (aV m c)))
      ⊢ wpc F c (opening xM wM (Memref.whole cc0_stg2_0) (Memref.whole cc0_stg3_0) c) K := by
  unfold opening lanesStart downs owns4 parts wbAny
  iintro ⟨#Hrec, ⟨⟨L0, L1, L2, L3⟩, ⟨D0, D1, D2, D3⟩, ⟨S0, S1, S2, S3⟩, Hp, Hb, Hx, Hw, Hs, HO⟩, Hk⟩
  iapply (wpc_bind c)
  iapply (wp_widen m c)
  isplitl [Hw Hb]
  · isplitl [Hw]; · iexact Hw
    iexact Hb
  iintro ⟨Hw, Hb⟩
  iapply (wpc_bind c)
  iapply (wp_seed m 0 c)
  isplitl [Hx Hb S0]
  · isplitl [Hx]; · iexact Hx
    isplitl [Hb]; · iexact Hb
    iexact S0
  iintro ⟨Hx, Hb, S0⟩
  iapply (wpc_bind c)
  iapply (wp_seed m 1 c)
  isplitl [Hx Hb S1]
  · isplitl [Hx]; · iexact Hx
    isplitl [Hb]; · iexact Hb
    iexact S1
  iintro ⟨Hx, Hb, S1⟩
  iapply (wpc_bind c)
  iapply (wp_seed m 2 c)
  isplitl [Hx Hb S2]
  · isplitl [Hx]; · iexact Hx
    isplitl [Hb]; · iexact Hb
    iexact S2
  iintro ⟨Hx, Hb, S2⟩
  iapply (wpc_bind c)
  iapply (wp_seed m 3 c)
  isplitl [Hx Hb S3]
  · isplitl [Hx]; · iexact Hx
    isplitl [Hb]; · iexact Hb
    iexact S3
  iintro ⟨Hx, Hb, S3⟩
  iapply (wpc_bind c)
  iapply (wp_send0 m c 0 (O₁ c) (Ow 0 1 0 c + Ow 1 0 0 c + Ow 2 0 0 c + Ow 3 0 0 c) (Ow 1 0 0 c + Ow 2 0 0 c + Ow 3 0 0 c)
    (by unfold O₁; ac_rfl) (by ac_rfl))
  isplitr; · iexact Hrec
  isplitl [L0 S0 D0 HO]
  · isplitl [L0]; · iexact L0
    isplitl [S0]; · iexact S0
    isplitl [D0]; · iexact D0
    iexact HO
  iintro ⟨L0, HO⟩
  iapply (wpc_bind c)
  iapply (wp_send0 m c 1 (Ow 0 1 0 c + Ow 1 0 0 c + Ow 2 0 0 c + Ow 3 0 0 c) (Ow 0 1 0 c + Ow 1 1 0 c + Ow 2 0 0 c + Ow 3 0 0 c) (Ow 0 1 0 c + Ow 2 0 0 c + Ow 3 0 0 c)
    (by ac_rfl) (by ac_rfl))
  isplitr; · iexact Hrec
  isplitl [L1 S1 D1 HO]
  · isplitl [L1]; · iexact L1
    isplitl [S1]; · iexact S1
    isplitl [D1]; · iexact D1
    iexact HO
  iintro ⟨L1, HO⟩
  iapply (wpc_bind c)
  iapply (wp_send0 m c 2 (Ow 0 1 0 c + Ow 1 1 0 c + Ow 2 0 0 c + Ow 3 0 0 c) (Ow 0 1 0 c + Ow 1 1 0 c + Ow 2 1 0 c + Ow 3 0 0 c) (Ow 0 1 0 c + Ow 1 1 0 c + Ow 3 0 0 c)
    (by ac_rfl) (by ac_rfl))
  isplitr; · iexact Hrec
  isplitl [L2 S2 D2 HO]
  · isplitl [L2]; · iexact L2
    isplitl [S2]; · iexact S2
    isplitl [D2]; · iexact D2
    iexact HO
  iintro ⟨L2, HO⟩
  iapply (wpc_bind c)
  iapply (wp_send0 m c 3 (Ow 0 1 0 c + Ow 1 1 0 c + Ow 2 1 0 c + Ow 3 0 0 c) (OO c 0 0 0 0) (Ow 0 1 0 c + Ow 1 1 0 c + Ow 2 1 0 c)
    (by ac_rfl) (by unfold OO; ac_rfl))
  isplitr; · iexact Hrec
  isplitl [L3 S3 D3 HO]
  · isplitl [L3]; · iexact L3
    isplitl [S3]; · iexact S3
    isplitl [D3]; · iexact D3
    iexact HO
  iintro ⟨L3, HO⟩
  iapply (wp_scales m c)
  isplitl [Hs]; · iexact Hs
  iintro Hs
  iapply Hk
  isplitr [Hw Hs]
  · unfold stepSt bufs
    isplitl [L0 L1 L2 L3]
    · isplitl [L0]; · iexact L0
      isplitl [L1]; · iexact L1
      isplitl [L2]; · iexact L2
      iexact L3
    isplitr [HO]
    · isplitl [Hx]; · iexact Hx
      isplitl [Hb]; · iexact Hb
      iexact Hp
    iexact HO
  isplitl [Hw]; · iexact Hw
  iexact Hs

/-! ## The body -/

/-- What a device starts the body with, its staging buffers apart. -/
def devIn : sProp 𝕄 :=
  iprop((atPos ER (barCell c) 0 ∅ 0 ∗ cred (tallyAt (barCell c) 0 2) ∗ dutyTok ER (barCell (lfD c)) 0 true ∗ dutyTok ER (barCell (rtD c)) 0 false)
    ∗ lanesStart (F := F) c)
/-- Its scratch buffers. -/
def scratch : sProp 𝕄 :=
  iprop((commAny (F := F) 0 c ∗ commAny (F := F) 1 c ∗ commAny (F := F) 2 c ∗ commAny (F := F) 3 c) ∗ parts (F := F) c ∗ wbAny (F := F) c)
/-- A lane's semaphores at zero. -/
def laneSems (l : Fin 4) : sProp 𝕄 :=
  iprop(semVal (ssCell l 0 c) 0 ∗ semVal (ssCell l 1 c) 0 ∗ semVal (rsCell l 0 c) 0 ∗ semVal (rsCell l 1 c) 0 ∗ semVal (crCell l c) 0)
/-- A device after the body, its staging buffers apart. -/
def devOut : sProp 𝕄 :=
  iprop(semVal (barCell c) 0 ∗ (laneSems (F := F) c 0 ∗ laneSems (F := F) c 1 ∗ laneSems (F := F) c 2 ∗ laneSems (F := F) c 3) ∗ scratch (F := F) c)

omit [FloatOps F] in
theorem laneOut_split (l : Fin 4) : laneOut (F := F) l c ⊢ iprop(commAny (F := F) l c ∗ pbAny (F := F) l c ∗ laneSems (F := F) c l) := by
  unfold laneOut laneSems
  iintro ⟨Hs, Hp, Hz⟩
  isplitl [Hs]; · iapply (comm_join l c); iexact Hs
  isplitl [Hp]; · iexact Hp
  iexact Hz

/-- The body takes a device from its start to the finished result. -/
theorem wp_body (K : PUnit → sProp 𝕄) :
    iprop((records m ∗ devIn (F := F) c ∗ scratch (F := F) c ∗ owesE c (O₀ c) ∗ (xC m c ∗ wC m c ∗ sC m c) ∗ outSt m 0 c)
        ∗ ((devOut (F := F) c ∗ owesE c 0 ∗ (xC m c ∗ wC m c ∗ sC m c) ∗ outSt m 4 c) -∗ K ⟨⟩))
      ⊢ wpc F c (body xM wM (Memref.whole cc0_stg2_0) (Memref.whole cc0_stg3_0) oM) K := by
  unfold body devIn scratch
  iintro ⟨⟨#Hrec, ⟨⟨HatB, HcB, HtL, HtR⟩, HL⟩, ⟨⟨C0, C1, C2, C3⟩, Hp, Hb⟩, HO, ⟨Hx, Hw, Hs⟩, Hout⟩, Hk⟩
  ihave C0 := (comm_split 0 c) $$ C0
  ihave C1 := (comm_split 1 c) $$ C1
  ihave C2 := (comm_split 2 c) $$ C2
  ihave C3 := (comm_split 3 c) $$ C3
  icases C0 with ⟨S0, T0⟩
  icases C1 with ⟨S1, T1⟩
  icases C2 with ⟨S2, T2⟩
  icases C3 with ⟨S3, T3⟩
  iapply (wpc_bind c)
  iapply (wp_handshake m c)
  isplitr; · iexact Hrec
  isplitl [HatB HcB HtL HtR T0 T1 T2 T3 HO]
  · isplitr [HO]
    · unfold handIn
      isplitl [HatB]; · iexact HatB
      isplitl [HcB]; · iexact HcB
      isplitl [HtL]; · iexact HtL
      isplitl [HtR]; · iexact HtR
      isplitl [T0]; · iexact T0
      isplitl [T1]; · iexact T1
      isplitl [T2]; · iexact T2
      iexact T3
    iexact HO
  unfold handOut
  iintro ⟨⟨HzB, HD⟩, HO⟩
  iapply (wpc_bind c)
  iapply (wp_opening m c)
  isplitr; · iexact Hrec
  isplitl [HL HD S0 S1 S2 S3 Hp Hb Hx Hw Hs HO]
  · isplitl [HL]; · iexact HL
    isplitl [HD]; · unfold downs; iexact HD
    isplitl [S0 S1 S2 S3]
    · unfold owns4
      isplitl [S0]; · iexact S0
      isplitl [S1]; · iexact S1
      isplitl [S2]; · iexact S2
      iexact S3
    isplitl [Hp]; · iexact Hp
    isplitl [Hb]; · iexact Hb
    isplitl [Hx]; · iexact Hx
    isplitl [Hw]; · iexact Hw
    isplitl [Hs]; · iexact Hs
    iexact HO
  iintro ⟨Hst, Hw, Hs⟩
  iapply (wp_steps m c _ K 14 _ (by decide))
  isplitr; · iexact Hrec
  isplitl [Hst]; · iexact Hst
  iintro Hst
  iapply (wp_lastStep m c)
  isplitr; · iexact Hrec
  isplitl [Hst Hout]
  · isplitl [Hst]; · iexact Hst
    iexact Hout
  unfold lastSt
  iintro ⟨⟨L0, L1, L2, L3⟩, ⟨Hx, Hb⟩, HO, Hout⟩
  ihave L0 := (laneOut_split c 0) $$ L0
  ihave L1 := (laneOut_split c 1) $$ L1
  ihave L2 := (laneOut_split c 2) $$ L2
  ihave L3 := (laneOut_split c 3) $$ L3
  icases L0 with ⟨C0, P0, Z0⟩
  icases L1 with ⟨C1, P1, Z1⟩
  icases L2 with ⟨C2, P2, Z2⟩
  icases L3 with ⟨C3, P3, Z3⟩
  iapply Hk
  isplitl [HzB C0 P0 Z0 C1 P1 Z1 C2 P2 Z2 C3 P3 Z3 Hb]
  · unfold devOut scratch parts
    isplitl [HzB]; · iexact HzB
    isplitl [Z0 Z1 Z2 Z3]
    · isplitl [Z0]; · iexact Z0
      isplitl [Z1]; · iexact Z1
      isplitl [Z2]; · iexact Z2
      iexact Z3
    isplitl [C0 C1 C2 C3]
    · isplitl [C0]; · iexact C0
      isplitl [C1]; · iexact C1
      isplitl [C2]; · iexact C2
      iexact C3
    isplitl [P0 P1 P2 P3]
    · isplitl [P0]; · iexact P0
      isplitl [P1]; · iexact P1
      isplitl [P2]; · iexact P2
      iexact P3
    unfold wbAny; iexists _; unfold wbC; iexact Hb
  isplitl [HO]; · iexact HO
  isplitl [Hx Hw Hs]
  · isplitl [Hx]; · iexact Hx
    isplitl [Hw]; · iexact Hw
    iexact Hs
  iexact Hout

end Cert.LaneProof

end
-- ==== Proof.Data.lean ====
/- The pipeline's data for the launch, and the obligation on the body. -/
module

public import proofs.«01_k».proof.Proof.Body

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- A result's index as a lane and an index in the lane's columns. -/
def laneOf (i : S256x8192.Idx) : Fin 4 := ⟨(i 1).val / 2048, by have h : (i 1).val < 8192 := (i 1).isLt; omega⟩
def inLane (i : S256x8192.Idx) : S256x2048.Idx := fun a => match a with
  | ⟨0, _⟩ => i 0
  | ⟨1, _⟩ => ⟨(i 1).val % 2048, Nat.mod_lt _ (by decide)⟩
theorem lane_emb (i : S256x8192.Idx) : (colR (laneOf i)).emb (inLane i) = i := funext fun a => Fin.ext (by
  match a with
  | ⟨0, _⟩ => show 0 + 1 * (i 0).val = (i 0).val; omega
  | ⟨1, _⟩ => show 2048 * ((i 1).val / 2048) + 1 * ((i 1).val % 2048) = (i 1).val; omega)

/-- The result of device `c`. -/
def outAt (c : Dev nD) : (cc0_stg4_0 : Ref sig .tc).ty.Contents (Elt F) := fun i => outL m (laneOf i) c (inLane i)

/-- A buffer with every lane's columns finished is the result. -/
theorem outAt_of_reads (c : Dev nD) (g : (cc0_stg4_0 : Ref sig .tc).ty.Contents (Elt F))
    (hg : ∀ l : Fin 4, l.val < 4 → (oM.access (colR l)).read (Elt F) g = outL m l c) : g = outAt m c := by
  funext i
  have h := congrFun (hg (laneOf i) (laneOf i).isLt) (inLane i)
  refine Eq.trans ?_ h
  show g i = g ((colR (laneOf i)).emb (inLane i))
  rw [lane_emb]

/-! ## The data -/

/-- Before the body: what the device knows and starts with. -/
def Φ₀ (c : Dev nD) : sProp 𝕄 := iprop((records m ∗ devIn (F := F) c) ∗ scratch (F := F) c)
/-- After it. -/
def Φ₁ (c : Dev nD) : sProp 𝕄 := devOut (F := F) c

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => systg m c
    | ⟨4, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the launch hands the body, -/
def bodyPre (c : Dev nD) : sProp 𝕄 :=
  iprop(Φ₀ m c ∗ (dats m 0 c).owesAt (0 : ℕ) t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
/-- and what it takes back. -/
def bodyPost (c : Dev nD) : sProp 𝕄 :=
  iprop(Φ₁ (F := F) c ∗ (dats m 0 c).owesAt (0 : ℕ) t0_0.succ
    ∗ stg c cc0_stg0_0 (xstg m c) ∗ stg c cc0_stg1_0 (wstg m c) ∗ stg c cc0_stg2_0 (sxstg m c) ∗ stg c cc0_stg3_0 (systg m c) ∗ stg c cc0_stg4_0 (outAt m c))

/-- The body from the one to the other. -/
theorem body_sound (c : Dev nD) :
    bodyPre m c ⊢ wp frame (wpE (defs₀ (F := F)) 𝒱₀ (c : Thread nD τ) none) Set.univ
      (body xM wM (Memref.whole cc0_stg2_0) (Memref.whole cc0_stg3_0) oM) (fun _ => bodyPost m c) := by
  unfold bodyPre Φ₀
  iintro ⟨⟨⟨#Hrec, Hdev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = xstg m c := by rw [hg0]; unfold Dat.before; rw [if_pos (by rfl)]; rfl
  have h1 : g1 = wstg m c := by rw [hg1]; unfold Dat.before; rw [if_pos (by rfl)]; rfl
  have h2 : g2 = sxstg m c := by rw [hg2]; unfold Dat.before; rw [if_pos (by rfl)]; rfl
  have h3 : g3 = systg m c := by rw [hg3]; unfold Dat.before; rw [if_pos (by rfl)]; rfl
  subst h0 h1 h2 h3
  unfold Dat.owesAt Pipeline.owesWithin
  icases Ho with ⟨%W, -, HO⟩
  iapply (wp_body m c)
  isplitr []
  · isplitr; · iexact Hrec
    isplitl [Hdev]; · iexact Hdev
    isplitl [Hscr]; · iexact Hscr
    isplitl [HO]; · unfold owesE; iexists W; iexact HO
    isplitl [H0 H1 H2 H3]
    · isplitl [H0]; · unfold xC; iexact H0
      isplitl [H1]; · unfold wC; iexact H1
      unfold sC
      isplitl [H2]; · iexact H2
      iexact H3
    unfold outSt
    iexists g4
    isplitr; · ipureintro; exact fun l hl => absurd hl (Nat.not_lt_zero _)
    iexact H4
  unfold owesE outSt xC wC sC
  iintro ⟨Hout, ⟨%W', HO⟩, ⟨H0, H1, H2, H3⟩, ⟨%g, %hg, H4⟩⟩
  unfold bodyPost Φ₁ Dat.owesAt Pipeline.owesWithin
  isplitl [Hout]; · iexact Hout
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists g; isplitr; · (ipureintro; exact outAt_of_reads m c g hg)
  iexact H4

/-- The body table's entry is the body by lane and step. -/
theorem body_row : defs₀ (F := F) .tc cfg0.body (cfg0.bodyArgs t0_0 (cfg0.slots t0_0))
    = bodyAt0 (F := F) t0_0 := by
  unfold defs₀; rw [Defs.onTc_tc]
theorem st_0 : st0_0 t0_0 = xM := rfl
theorem st_1 : st0_1 t0_0 = wM := rfl
theorem st_2 : st0_2 t0_0 = Memref.whole cc0_stg2_0 := rfl
theorem st_3 : st0_3 t0_0 = Memref.whole cc0_stg3_0 := rfl
theorem st_4 : st0_4 t0_0 = oM := rfl
theorem body_at : bodyAt0 (F := F) t0_0 = body (F := F) xM wM (Memref.whole cc0_stg2_0) (Memref.whole cc0_stg3_0) oM := by
  have h := bodyAt_eq (F := F) t0_0
  rw [st_0, st_1, st_2, st_3, st_4] at h
  exact h

theorem phi_at (c : Dev nD) : (dats m 0 c).Φ t0_0.castSucc = Φ₀ m c := rfl
theorem phi_end (c : Dev nD) : (dats m 0 c).Φ t0_0.succ = Φ₁ (F := F) c := rfl
theorem after_0 (c : Dev nD) : (dats m 0 c).after 0 t0_0 = xstg m c := rfl
theorem after_1 (c : Dev nD) : (dats m 0 c).after 1 t0_0 = wstg m c := rfl
theorem after_2 (c : Dev nD) : (dats m 0 c).after 2 t0_0 = sxstg m c := rfl
theorem after_3 (c : Dev nD) : (dats m 0 c).after 3 t0_0 = systg m c := rfl
theorem after_4 (c : Dev nD) : (dats m 0 c).after 4 t0_0 = outAt m c := rfl

/-- The obligation on the body. -/
theorem body_obligation (c : Dev nD) : BodyObligation (dats (F := F) m 0 c) (defs₀ (F := F)) 𝒱₀ (0 : ℕ) Set.univ := fun t => by
  rw [fin_N0 t]
  rw [bigSep_W0, bigSep_W0, body_row, body_at]
  simp only [owns_whole_eq]
  rw [phi_at, phi_end, after_0, after_1, after_2, after_3, after_4]
  have h := body_sound m c
  unfold bodyPre bodyPost at h
  refine BIBase.Entails.trans ?_ (BIBase.Entails.trans h ?_)
  · iintro ⟨H, Ho, H0, H1, H2, H3, H4⟩
    isplitl [H]; · iexact H
    isplitl [Ho]; · iexact Ho
    isplitl [H0]; · iexact H0
    isplitl [H1]; · iexact H1
    isplitl [H2]; · iexact H2
    isplitl [H3]; · iexact H3
    iexact H4
  · refine Entails.of_eq ?_
    congr 1

end Cert.LaneProof

end
-- ==== Proof.Deal.lean ====
/- What the launch deals: the duty tokens of every device's cells and the credit of every device's waits. -/
module

public import proofs.«01_k».proof.Proof.Data
public import Idealize.SL.BI.BigOpNat

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Families over a range and over the lanes -/

/-- A family over the numbers below `n` is the one over the range. -/
theorem bigSep_upto (n : ℕ) (Φ : ℕ → sProp 𝕄) : (bigSep Finset.univ fun t : Fin n => Φ t.val) = bigSep (Finset.Ico 0 n) Φ := by
  rw [show Finset.Ico 0 n = Finset.univ.map (Fin.valEmbedding (n := n)) from Finset.ext fun x => by
    rw [Finset.mem_Ico, Finset.mem_map]
    exact ⟨fun h => ⟨⟨x, h.2⟩, Finset.mem_univ _, rfl⟩, fun ⟨a, _, ha⟩ => ha ▸ ⟨Nat.zero_le _, a.isLt⟩⟩, bigSep_map]
  rfl

/-- A family over the four lanes, written out. -/
theorem bigSep_lanes (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over a device's cells: the barrier's, and lane by lane five. -/
theorem bigSep_cells (Φ : CIx → sProp 𝕄) : bigSep Finset.univ Φ
    = iprop(Φ none ∗ bigSep Finset.univ fun l => iprop(Φ (some (l, 0)) ∗ Φ (some (l, 1)) ∗ Φ (some (l, 2)) ∗ Φ (some (l, 3)) ∗ Φ (some (l, 4)))) := by
  rw [bigSep_univ_at _ (none : CIx), show Finset.univ.erase (none : CIx) = Finset.univ.map Function.Embedding.some from Finset.ext fun a => by
    cases a <;> simp, bigSep_map, bigSep_univ_prod]
  congr 1
  exact bigSep_congr fun l _ => bigSep_univ_eq_bigSepL [0, 1, 2, 3, 4] (by decide) (by decide) _

/-- A family over devices and lanes may be moved along each lane's ring. -/
theorem bigSep_along_lanes (e : Fin 4 → Dev nD ≃ Dev nD) (Φ : Fin 4 → Dev nD → sProp 𝕄) :
    (bigSep Finset.univ fun c => bigSep Finset.univ fun l => Φ l c) = bigSep Finset.univ fun c => bigSep Finset.univ fun l => Φ l (e l c) := by
  rw [bigSep_univ_comm, bigSep_univ_comm (fun c l => Φ l (e l c))]
  exact bigSep_congr fun l _ => bigSep_univ_equiv (e l) (Φ l)

/-! ## The tokens -/

/-- A device's tokens: two of the barrier, then per lane and step those of the credit, send and receive cells. -/
abbrev TIx := Bool ⊕ (Fin 4 × Fin 14) ⊕ (Fin 4 × Fin 15) ⊕ (Fin 4 × Fin 15)
def tokOf (x : Dev nD × TIx) : GSem nD τ sig × ℕ × Bool := match x.2 with
  | .inl b => (barCell x.1, 0, b)
  | .inr (.inl (l, t)) => (crCell l x.1, t.val, false)
  | .inr (.inr (.inl (l, t))) => (ssCell l (par t.val) x.1, t.val / 2, false)
  | .inr (.inr (.inr (l, t))) => (rsCell l (par (t.val + 1)) x.1, t.val / 2, false)

theorem par_half {n : ℕ} {a b : Fin n} (hp : par a.val = par b.val) (hh : a.val / 2 = b.val / 2) : a = b := by
  have h := congrArg Fin.val hp
  exact Fin.ext (by dsimp only [par] at h; omega)
theorem par_half' {n : ℕ} {a b : Fin n} (hp : par (a.val + 1) = par (b.val + 1)) (hh : a.val / 2 = b.val / 2) : a = b := by
  have h := congrArg Fin.val hp
  exact Fin.ext (by dsimp only [par] at h; omega)

theorem tokOf_injective : Function.Injective tokOf := by
  rintro ⟨c, j⟩ ⟨c', j'⟩ h
  have hk := congrArg (fun x : GSem nD τ sig × ℕ × Bool => (x.1.1.1, kind x.1.2, x.2)) h
  rcases j with b | ⟨l, t⟩ | ⟨l, t⟩ | ⟨l, t⟩ <;> rcases j' with b' | ⟨l', t'⟩ | ⟨l', t'⟩ | ⟨l', t'⟩ <;>
    simp only [tokOf, kind_bar, kind_cr, kind_ss, kind_rs, Prod.mk.injEq, reduceCtorEq, false_and, and_false, Kd.cred.injEq, Kd.send.injEq, Kd.recv.injEq] at hk
  · obtain ⟨rfl, -, -, rfl⟩ := hk; rfl
  · obtain ⟨rfl, rfl, ht, -⟩ := hk; obtain rfl := Fin.ext ht; rfl
  · obtain ⟨rfl, ⟨rfl, hp⟩, hh, -⟩ := hk; obtain rfl := par_half hp hh; rfl
  · obtain ⟨rfl, ⟨rfl, hp⟩, hh, -⟩ := hk; obtain rfl := par_half' hp hh; rfl

def allToks : Finset (GSem nD τ sig × ℕ × Bool) := Finset.univ.map ⟨tokOf, tokOf_injective⟩

/-- The tokens of a lane's cells on a device: of its credits, its sends, its receives. -/
def tokC (l : Fin 4) (c : Dev nD) : sProp 𝕄 := bigSep (Finset.Ico 0 14) fun t => dutyTok ER (crCell l c) t false
def tokS (l : Fin 4) (c : Dev nD) : sProp 𝕄 := bigSep (Finset.Ico 0 15) fun t => dutyTok ER (ssCell l (par t) c) (t / 2) false
def tokR (l : Fin 4) (c : Dev nD) : sProp 𝕄 := bigSep (Finset.Ico 0 15) fun t => dutyTok ER (rsCell l (par (t + 1)) c) (t / 2) false

/-- The tokens of a device's own cells, -/
def toks (c : Dev nD) : sProp 𝕄 :=
  iprop((dutyTok ER (barCell c) 0 false ∗ dutyTok ER (barCell c) 0 true) ∗ (bigSep Finset.univ fun l => tokC (F := F) l c)
    ∗ (bigSep Finset.univ fun l => tokS (F := F) l c) ∗ (bigSep Finset.univ fun l => tokR (F := F) l c))
/-- and of the duties it pays. -/
def payToks (c : Dev nD) : sProp 𝕄 :=
  iprop((dutyTok ER (barCell (rtD c)) 0 false ∗ dutyTok ER (barCell (lfD c)) 0 true) ∗ (bigSep Finset.univ fun l => tokC (F := F) l (upD l c))
    ∗ (bigSep Finset.univ fun l => tokS (F := F) l c) ∗ (bigSep Finset.univ fun l => tokR (F := F) l (dnD l c)))

/-- The minted tokens, device by device. -/
theorem allToks_eq : (bigSep allToks fun x => (dutyTok ER x.1 x.2.1 x.2.2 : sProp 𝕄)) = bigSep Finset.univ fun c : Dev nD => toks (F := F) c := by
  unfold allToks
  rw [bigSep_map, bigSep_univ_prod]
  refine bigSep_congr fun c _ => ?_
  unfold toks tokC tokS tokR
  rw [bigSep_univ_sum, bigSep_univ_sum, bigSep_univ_sum, bigSep_univ_prod, bigSep_univ_prod, bigSep_univ_prod]
  simp only [← bigSep_upto]
  rw [bigSep_univ_eq_bigSepL [false, true] (by decide) (by decide)]
  rfl

/-- The tokens dealt around the rings. -/
theorem toks_around : (bigSep Finset.univ fun c : Dev nD => toks (F := F) c) = bigSep Finset.univ fun c : Dev nD => payToks (F := F) c := by
  unfold toks payToks
  simp only [bigSep_sep']
  rw [bigSep_univ_equiv rightE (fun c : Dev nD => (dutyTok ER (barCell c) 0 false : sProp 𝕄)),
    bigSep_univ_equiv rightE.symm (fun c : Dev nD => (dutyTok ER (barCell c) 0 true : sProp 𝕄)),
    bigSep_along_lanes (fun l => (ringE l).symm) (fun l c => tokC (F := F) l c), bigSep_along_lanes ringE (fun l c => tokR (F := F) l c)]
  rfl

/-! ## The credit -/

/-- What a device's own waits take: per lane every receive and every credit, and the barrier's two. -/
def due (c : Dev nD) : CellTallies nD τ sig ℕ :=
  (∑ l : Fin 4, ((∑ s ∈ Finset.Ico 0 15, tallyAt (rsCell l (par (s + 1)) c) s N) + ∑ s ∈ Finset.Ico 0 14, tallyAt (crCell l c) s 1))
    + tallyAt (barCell c) 0 1 + tallyAt (barCell c) 0 1

/-- What the devices owe is what their waits take. -/
theorem owed_due : (∑ c, O₀ c) = ∑ c, due c := by
  have h (c : Dev nD) : O₀ c = (∑ l : Fin 4, (OwR l 0 c + OwC l 0 c)) + tallyAt (barCell (rtD c)) 0 1 + tallyAt (barCell (lfD c)) 0 1 := by
    rw [Fin.sum_univ_four]; rfl
  have hR : (∑ c, ∑ l : Fin 4, OwR l 0 c) = ∑ c : Dev nD, ∑ l : Fin 4, ∑ s ∈ Finset.Ico 0 15, (tallyAt (rsCell l (par (s + 1)) c) s N : CellTallies nD τ sig ℕ) := by
    rw [Finset.sum_comm, Finset.sum_comm (s := (Finset.univ : Finset (Dev nD)))]
    exact Finset.sum_congr rfl fun l _ => (ringE l).sum_comp fun c => ∑ s ∈ Finset.Ico 0 15, (tallyAt (rsCell l (par (s + 1)) c) s N : CellTallies nD τ sig ℕ)
  have hC : (∑ c, ∑ l : Fin 4, OwC l 0 c) = ∑ c : Dev nD, ∑ l : Fin 4, ∑ s ∈ Finset.Ico 0 14, (tallyAt (crCell l c) s 1 : CellTallies nD τ sig ℕ) := by
    rw [Finset.sum_comm, Finset.sum_comm (s := (Finset.univ : Finset (Dev nD)))]
    exact Finset.sum_congr rfl fun l _ => (ringE l).symm.sum_comp fun c => ∑ s ∈ Finset.Ico 0 14, (tallyAt (crCell l c) s 1 : CellTallies nD τ sig ℕ)
  have hB (e : Dev nD ≃ Dev nD) : (∑ c, tallyAt (barCell (e c)) 0 1) = ∑ c, (tallyAt (barCell c) 0 1 : CellTallies nD τ sig ℕ) :=
    e.sum_comp fun c => (tallyAt (barCell c) 0 1 : CellTallies nD τ sig ℕ)
  have h1 : (∑ c, O₀ c) = (∑ c, ∑ l : Fin 4, OwR l 0 c) + (∑ c, ∑ l : Fin 4, OwC l 0 c) + (∑ c, tallyAt (barCell (rightE c)) 0 1) + ∑ c, tallyAt (barCell (rightE.symm c)) 0 1 := by
    rw [← Finset.sum_add_distrib, ← Finset.sum_add_distrib, ← Finset.sum_add_distrib]
    exact Finset.sum_congr rfl fun c _ => by rw [h, Finset.sum_add_distrib]; rfl
  have h2 : (∑ c, due c) = (∑ c : Dev nD, ∑ l : Fin 4, ∑ s ∈ Finset.Ico 0 15, (tallyAt (rsCell l (par (s + 1)) c) s N : CellTallies nD τ sig ℕ))
      + (∑ c : Dev nD, ∑ l : Fin 4, ∑ s ∈ Finset.Ico 0 14, (tallyAt (crCell l c) s 1 : CellTallies nD τ sig ℕ))
      + (∑ c, tallyAt (barCell c) 0 1) + ∑ c, tallyAt (barCell c) 0 1 := by
    rw [← Finset.sum_add_distrib, ← Finset.sum_add_distrib, ← Finset.sum_add_distrib]
    exact Finset.sum_congr rfl fun c _ => by unfold due; rw [Finset.sum_add_distrib]
  rw [h1, h2, hR, hC, hB, hB]

/-- Tallies on one device's cells only. -/
def On (c : Dev nD) (T : CellTallies nD τ sig ℕ) : Prop := ∀ g, T g ≠ 0 → g.1 = (c.tc : Thread nD τ)
theorem On.add {c : Dev nD} {S T : CellTallies nD τ sig ℕ} (hS : On c S) (hT : On c T) : On c (S + T) := fun g h => by
  by_cases h0 : S g = 0
  · exact hT g fun h1 => h (by rw [Pi.add_apply, h0, h1, add_zero])
  · exact hS g h0
theorem On.sum {α : Type} {c : Dev nD} (s : Finset α) {T : α → CellTallies nD τ sig ℕ} (h : ∀ a, On c (T a)) : On c (∑ a ∈ s, T a) := fun g hg => by
  rw [Finset.sum_apply] at hg
  obtain ⟨a, -, ha⟩ := Finset.exists_ne_zero_of_sum_ne_zero hg
  exact h a g ha
theorem On.at (c : Dev nD) (sm : SemLoc sig) (i n : ℕ) : On c (tallyAt ((c : Thread nD τ), sm) i n) := fun g hg => by
  by_contra h
  exact hg (Finsupp.ext fun j => by rw [tallyAt_ne_cell (fun e => h (congrArg Prod.fst e))])
theorem due_on (c : Dev nD) : On c (due c) :=
  ((On.sum _ fun l => (On.sum _ fun s => On.at c _ _ _).add (On.sum _ fun s => On.at c _ _ _)).add (On.at c _ _ _)).add (On.at c _ _ _)

/-- The credit a lane's receives and credits take on a device. -/
def credR (l : Fin 4) (c : Dev nD) : sProp 𝕄 := bigSep (Finset.Ico 0 15) fun s => cred (tallyAt (rsCell l (par (s + 1)) c) s N)
def credC (l : Fin 4) (c : Dev nD) : sProp 𝕄 := bigSep (Finset.Ico 0 14) fun s => cred (tallyAt (crCell l c) s 1)

/-- The launch's credit, wait by wait. -/
theorem creds (c : Dev nD) : (Pipeline.launchCred O₀ c : sProp 𝕄)
    ⊢ iprop((bigSep Finset.univ fun l => iprop(credR (F := F) l c ∗ credC (F := F) l c)) ∗ cred (tallyAt (barCell c) 0 2)) := by
  rw [Pipeline.launchCred_of_sum O₀ due owed_due due_on]
  unfold due credR credC
  rw [add_assoc, tallyAt_add]
  refine (cred_add _ _).1.trans (sep_mono_left (Entails.of_eq ?_))
  rw [Pipeline.cred_finsetSum]
  refine bigSep_congr fun l _ => ?_
  rw [← Pipeline.cred_finsetSum, ← Pipeline.cred_finsetSum]
  exact BI.Entails.antisymm (cred_add _ _).1 (cred_add _ _).2

end Cert.LaneProof

end
-- ==== Proof.Launch.lean ====
/- The launch: from the launch's resources to every device's start, and the run of the whole program. -/
module

public import proofs.«01_k».proof.Proof.Deal
public import Idealize.ShloMosaic.Lib.Pipeline.CollectiveSegs

@[expose] public section

set_option maxRecDepth 16384

noncomputable section

namespace Cert.LaneProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells at the launch -/

/-- The kernel's own semaphores: every cell's but the barrier's. -/
abbrev osem (k : Fin 4 × Fin 5) : SemLoc sig := csem (some k)

theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What the launch deals a device. -/
def G (c : Dev nD) : sProp 𝕄 :=
  iprop((bigSep Finset.univ fun k : CIx => roundState ER (sched m) (kcell (c, k)) 0)
    ∗ (bigSep Finset.univ fun k : CIx => atPos ER (kcell (c, k)) 0 ∅ 0) ∗ (bigSep Finset.univ fun k : CIx => reached ER (kcell (c, k)) 0)
    ∗ toks (F := F) c)

/-- What holds of every cell from the launch on, the levels apart. -/
def known : sProp 𝕄 := iprop((bigSep allCells fun g => iprop(∃ κ, cellInv ER (sched m) κ g)) ∗ bigSep allCells fun g => reached ER g 0)
instance known_persistent : BI.Persistent (known m) := by unfold known; infer_instance

/-- What a device has once every cell's invariant stands. -/
def G' (c : Dev nD) : sProp 𝕄 :=
  iprop(known m ∗ (bigSep Finset.univ fun k : CIx => atPos ER (kcell (c, k)) 0 ∅ 0) ∗ payToks (F := F) c)

/-- A family over all cells, device by device. -/
theorem allCells_eq (Φ : GSem nD τ sig → sProp 𝕄) :
    bigSep allCells Φ = bigSep Finset.univ fun c : Dev nD => bigSep Finset.univ fun k : CIx => Φ (kcell (c, k)) := by
  unfold allCells; rw [bigSep_map, bigSep_univ_prod]; rfl

theorem fund_lanes : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (allCells_eq fun g => roundState ER (sched m) g 0)) $$ Hst
  ihave Hat := (Entails.of_eq (allCells_eq (F := F) fun g => atPos ER g 0 ∅ 0)) $$ Hat
  ihave Hr := (Entails.of_eq (allCells_eq (F := F) fun g => reached ER g 0)) $$ Hr
  ihave Htok := (Entails.of_eq (allToks_eq (F := F))) $$ Htok
  unfold G; simp only [bigSep_sep']
  isplitl [Hst]; · iexact Hst
  isplitl [Hat]; · iexact Hat
  isplitl [Hr]; · iexact Hr
  iexact Htok

/-- The one semaphore outside the kernel is the barrier's. -/
theorem unscopedSems0_eq (c : Dev nD) : (unscopedSems0 c : sProp 𝕄) = semVal (barCell c) 0 := by
  unfold unscopedSems0; rw [bigSep_eq_bigSepL_of_eq [SemLoc.reg baS] (by decide) (by decide)]; rfl
/-- The kernel's own, lane by lane. -/
theorem ownSems0_eq (c : Dev nD) : (Pipeline.ownSems0 (Ix := ℕ) (Name := ℕ) (U := UU) (Lvl := ℕ) (Val := Elt F) (τ := τ) osem c : sProp 𝕄)
    = bigSep Finset.univ fun l => laneSems (F := F) c l := by
  unfold Pipeline.ownSems0
  rw [bigSep_univ_prod]
  refine bigSep_congr fun l _ => ?_
  rw [bigSep_univ_eq_bigSepL [0, 1, 2, 3, 4] (by decide) (by decide)]
  dsimp only [osem, csem, laneSems, bigSepL]
  rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cells]
  iintro ⟨HS, HB⟩
  isplitl [HB]; · iexact HB
  iexact HS

/-- A device's cells opened: each counter goes into its cell's invariant. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (sched m) κ (kcell (c, k))))
          ∗ (bigSep Finset.univ fun k : CIx => reached ER (kcell (c, k)) 0)
          ∗ (bigSep Finset.univ fun k : CIx => atPos ER (kcell (c, k)) 0 ∅ 0) ∗ toks (F := F) c) := by
  unfold G
  iintro ⟨Hos, Hus, Hst, Hat, Hr, Htok⟩
  ihave Hv := (sems0_eq (F := F) c) $$ [Hos Hus]
  · isplitl [Hos] <;> iassumption
  have hopen : iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  imod hopen $$ [Hv Hst] with Hinv
  · isplitl [Hv] <;> iassumption
  imodintro
  isplitl [Hinv]; · iexact Hinv
  isplitl [Hr]; · iexact Hr
  isplitl [Hat]; · iexact Hat
  iexact Htok

/-- What is known is every device's; the tokens go round the rings. -/
theorem regroup :
    (bigSep Finset.univ fun c : Dev nD => iprop((bigSep Finset.univ fun k : CIx => iprop(∃ κ : ℕ, cellInv ER (sched m) κ (kcell (c, k))))
          ∗ (bigSep Finset.univ fun k : CIx => reached ER (kcell (c, k)) 0)
          ∗ (bigSep Finset.univ fun k : CIx => atPos ER (kcell (c, k)) 0 ∅ 0) ∗ toks (F := F) c) : sProp 𝕄)
      ⊢ bigSep Finset.univ (G' m) := by
  rw [bigSep_sep', bigSep_sep', bigSep_sep', toks_around, ← allCells_eq fun g => iprop(∃ κ : ℕ, cellInv ER (sched m) κ g),
    ← allCells_eq (F := F) fun g => reached ER g 0]
  unfold G'
  rw [bigSep_sep', bigSep_sep']
  iintro ⟨HI, HR, Hat, Htk⟩
  isplitl [HI HR]
  · iapply (BI.bigSep_of_persistent Finset.univ (known m))
    unfold known
    isplitl [HI] <;> iassumption
  isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## A device's start -/

/-- A lane's positions. -/
def posL (l : Fin 4) (c : Dev nD) : sProp 𝕄 :=
  iprop(atPos ER (ssCell l 0 c) 0 ∅ 0 ∗ atPos ER (ssCell l 1 c) 0 ∅ 0 ∗ atPos ER (rsCell l 0 c) 0 ∅ 0 ∗ atPos ER (rsCell l 1 c) 0 ∅ 0 ∗ atPos ER (crCell l c) 0 ∅ 0)

/-- A lane's start from its positions, its credit and the tokens it pays with. -/
theorem lane_start (l : Fin 4) (c : Dev nD) :
    iprop(posL (F := F) l c ∗ (credR (F := F) l c ∗ credC (F := F) l c) ∗ tokC (F := F) l (upD l c) ∗ tokS (F := F) l c ∗ tokR (F := F) l (dnD l c))
      ⊢ laneStart (F := F) c l := by
  unfold posL credR credC tokC tokS tokR laneStart payX
  rw [bigSep_sep', bigSep_sep']
  iintro ⟨⟨A0, A1, A2, A3, A4⟩, ⟨HR, HC⟩, TC, TS, TR⟩
  isplitl [A0 A1 A2 A3 A4]
  · isplitl [A0]; · iexact A0
    isplitl [A1]; · iexact A1
    isplitl [A3]; · iexact A3
    isplitl [A2]; · iexact A2
    iexact A4
  isplitl [HR]; · iexact HR
  isplitl [TS TR]
  · isplitl [TS] <;> iassumption
  isplitl [HC] <;> iassumption

/-- A device's start from all its positions, credit and tokens. -/
theorem dev_start (c : Dev nD) :
    iprop((bigSep Finset.univ fun k : CIx => atPos ER (kcell (c, k)) 0 ∅ 0) ∗ payToks (F := F) c
        ∗ (bigSep Finset.univ fun l => iprop(credR (F := F) l c ∗ credC (F := F) l c)) ∗ cred (tallyAt (barCell c) 0 2))
      ⊢ devIn (F := F) c := by
  rw [bigSep_cells]
  unfold payToks devIn
  iintro ⟨⟨HaB, Hat⟩, ⟨⟨HtR, HtL⟩, TC, TS, TR⟩, Hcr, HcB⟩
  isplitl [HaB HcB HtR HtL]
  · isplitl [HaB]; · iexact HaB
    isplitl [HcB]; · iexact HcB
    isplitl [HtL] <;> iassumption
  unfold lanesStart
  iapply (show _ ⊢ _ from Entails.of_eq (bigSep_lanes (F := F) fun l => laneStart (F := F) c l))
  iapply (show (_ : sProp 𝕄) ⊢ _ from bigSep_mono fun l (_ : l ∈ Finset.univ) => lane_start (F := F) l c)
  simp only [bigSep_sep']
  isplitl [Hat]; · unfold posL; simp only [bigSep_sep']; iexact Hat
  isplitl [Hcr]; · iexact Hcr
  isplitl [TC]; · iexact TC
  isplitl [TS] <;> iassumption

/-! ## The side conditions of the launch -/

/-- What a device knows and starts with. -/
def start (c : Dev nD) : sProp 𝕄 := iprop(records m ∗ devIn (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' known records
  icases HG with ⟨⟨HI, HR⟩, Hat, Htk⟩
  isplitl
  · isplitl [HI HR Hlev]
    · isplitl [HI]; · iexact HI
      isplitl [HR] <;> iassumption
    iapply (dev_start c)
    isplitl [Hat]; · iexact Hat
    isplitl [Htk] <;> iassumption
  · iempintro

/-- A whole buffer holding anything, as a memory reference's region -/
theorem any_region (c : Dev nD) (b : Ref sig .tc) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  simp only [Memref.view_whole, View.set_whole]
/-- or owned at some contents. -/
theorem any_owned (c : Dev nD) (b : Ref sig .tc) :
    (iprop(∃ u, owns (c : Thread nD τ) (Memref.whole b) fullShare u) : sProp 𝕄)
      = iprop(∃ f : Buf (Elt F) ((c : Thread nD τ).loc b), ((c : Thread nD τ).loc b) ↦{fullShare} f) := by
  simp only [owns_whole_eq]
  refine BI.Entails.antisymm (show (_ : sProp 𝕄) ⊢ _ from ?_) (show (_ : sProp 𝕄) ⊢ _ from ?_)
  · iintro ⟨%u, %f, -, H⟩; iexists f; iexact H
  · iintro ⟨%f, H⟩; iexists f; iexists f; isplitr; · ipureintro; rfl
    iexact H

/-- The scratch buffers as the launch names them. -/
theorem scratch_eq (c : Dev nD) : (Pipeline.scopedRest (Ix := ℕ) (Name := ℕ) (U := UU) (Lvl := ℕ) (Val := Elt F) cfg0.spec c : sProp 𝕄)
    = iprop(wbAny (F := F) c ∗ commAny (F := F) 0 c ∗ commAny (F := F) 1 c ∗ commAny (F := F) 2 c ∗ commAny (F := F) 3 c
      ∗ pbAny (F := F) 0 c ∗ pbAny (F := F) 1 c ∗ pbAny (F := F) 2 c ∗ pbAny (F := F) 3 c) := by
  rw [scopedRest0_eq, ← any_region c cc0_scratch1, ← any_region c cc0_scratch2, ← any_region c cc0_scratch3, ← any_region c cc0_scratch4,
    ← any_owned c cc0_scratch5, ← any_owned c cc0_scratch6, ← any_owned c cc0_scratch7, ← any_owned c cc0_scratch8]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ scratch parts start
  iintro ⟨Hs, -, Hb, C0, C1, C2, C3, HP⟩
  isplitl [Hs]; · iexact Hs
  isplitl [C0 C1 C2 C3]
  · isplitl [C0]; · iexact C0
    isplitl [C1]; · iexact C1
    isplitl [C2] <;> iassumption
  isplitl [HP] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq, ownSems0_eq, unscopedSems0_eq, bigSep_lanes]
  unfold Φ₁ devOut scratch parts
  iintro ⟨HB, HS, ⟨C0, C1, C2, C3⟩, HP, Hb⟩
  isplitl [HB]; · iexact HB
  isplitl [HS]; · iexact HS
  isplitl [Hb]; · iexact Hb
  isplitl [C0]; · iexact C0
  isplitl [C1]; · iexact C1
  isplitl [C2]; · iexact C2
  isplitl [C3] <;> iassumption

theorem lv_stage : ∀ (w : Fin cfg0.W) (s : Fin (cfg0.win w).nbuf), kind (.dma ((cfg0.win w).sem s)) = .other := by decide +kernel

theorem waits (c : Dev nD) : (levAts L lv : sProp 𝕄) ⊢ Pipeline.cellsWaits cfgs (dats m) (0 : ℕ) 0 c :=
  Pipeline.cellsWaits_intro cfgs (dats m) (0 : ℕ) 0 c fun w s t =>
    mayWait c _ 0 0 _ (by decide) (by dsimp only [lv]; exact Eq.le (by rw [show kind (.dma (((cfgs 0).win w).sem s)) = Kd.other from lv_stage w s])) (by
      rcases t with ⟨_ | _, ht⟩
      · exact above_O₀ c
      · exact Above.zero 0)

/-! ## The run -/

def QC : PUnit × MemSt nD τ sig (Elt F) → Prop := fun r =>
  ∀ (c : Dev nD) (w : Fin cfg0.W), r.2.mem ((cfg0.win w).arr.view.loc (c : Thread nD τ)) = (dats m 0 c).arrAt w cfg0.N

set_option maxRecDepth 200000 in
/-- From any memory with zero counters, on sixteen devices and for any float values, every weakly fair execution of the
    program ends, with every counter at zero, the arguments as they were and each result as the lanes leave it. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_lanes m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem final_in (c : Dev nD) (w : Fin cfg0.W) (hw : (cfg0.win w).isOut = false) : (dats m 0 c).arrAt w cfg0.N = m ((cfg0.win w).arr.view.loc (c : Thread nD τ)) :=
  (dats m 0 c).arrAt_in w hw _

end Cert.LaneProof

end
-- ==== Proof.Frames.lean ====
/- The runs the claims speak of, read off the run of the whole program. -/
module

public import proofs.«01_k».proof.Defs
public import proofs.«01_k».proof.Proof.Launch
public import proofs.«01_k».proof.Proof.Gen.Kernel
public import proofs.«01_k».proof.Proof.Gen.ReferenceIdeal.Frame

@[expose] public section

set_option maxRecDepth 16384

noncomputable section

namespace Cert.LaneProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A final state's arguments are the launch's. -/
theorem args_unchanged (c : Dev nD) {r : PUnit × MemSt nD τ sig (Elt F)} (h : QC m r) :
    r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3) :=
  ⟨(h c 0).trans (final_in m c 0 rfl), (h c 1).trans (final_in m c 1 rfl), (h c 2).trans (final_in m c 2 rfl), (h c 3).trans (final_in m c 3 rfl)⟩

/-- The idealized program ends, its arguments unchanged and its counters at zero. -/
theorem frame_ideal : Cert.quiescent_KernelIdeal := fun m ρ _ =>
  (θ_run defs _ _).mono (fun _ h => ⟨fun c => args_unchanged m c h.1, h.2⟩) (run_main (F := Ideal) m ρ)

/-- The printed program's body is the idealized program's, -/
theorem row_eq : (l : Λ₀.Label) → (x : Λ₀.Args l) → Cert.Kernel.defs₀ (F := F) .tc l x = defs₀ (F := F) .tc l x
  | ⟨0, _⟩, (_, _) => rfl
/-- and so is its table of bodies. -/
theorem defs_eq : Cert.Kernel.defs (F := F) = defs (F := F) :=
  congrArg (Pipeline.defs pcfgs) (funext fun p => match p with
    | .tc => funext fun l => funext fun x => row_eq l x
    | .scScalar _ => rfl
    | .scVector _ _ => rfl)

/-- The program as printed runs as the idealized one does. -/
theorem run_printed (ρ : Dev nD → PrngReg) :
    θ_run (Cert.Kernel.defs (F := F)) (onTc (τ := τ) (main (F := F))) (s₀ m ρ) (fun r => QC m r ∧ r.2.sem = fun _ => 0) :=
  (congrArg (fun D => θ_run D (onTc (τ := τ) (main (F := F))) (s₀ m ρ) (fun r => QC m r ∧ r.2.sem = fun _ => 0)) defs_eq).mpr (run_main m ρ)

/-- So does the program as printed. -/
theorem frame_kernel : Cert.quiescent_Kernel := fun m ρ _ =>
  (θ_run Cert.Kernel.defs _ _).mono (fun _ h => ⟨fun c => args_unchanged (F := Bits) m c h.1, h.2⟩) (run_printed (F := Bits) m ρ)

/-- So does the reference. -/
theorem frame_reference : Cert.quiescent_ReferenceIdeal := fun m ρ _ => Cert.ReferenceIdeal.Gen.frame m ρ

end Cert.LaneProof

end
-- ==== Proof.Value.lean ====
/- What the kernel computes over the extended reals: each device's result is its rows of the sum, over the
   sixteen devices, of the products of a device's columns of x with its rows of w, scaled and cut at zero. -/
module

public import proofs.«01_k».proof.Proof.Launch
public import Idealize.ShloMosaic.Lib.Pipeline.Value
public import Idealize.ShloMosaic.Lib.ValueIdx
public import Idealize.ShloMosaic.Lib.MatmulPlain

@[expose] public section

set_option maxRecDepth 16384

noncomputable section

namespace Cert.LaneProof

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! ## The ring, followed upstream -/

/-- The device `n` places upstream. -/
def upN (l : Fin 4) (n : ℕ) (c : Dev nD) : Dev nD := (upD l)^[n] c

/-- Sixteen places upstream is the device itself, -/
theorem upN_cycle : ∀ (l : Fin 4) (c : Dev nD), upN l 16 c = c := by decide +kernel
/-- and the sixteen places before are different devices. -/
theorem upN_inj : ∀ (l : Fin 4) (c : Dev nD) (s s' : Fin 16), upN l s.val c = upN l s'.val c → s = s' := by decide +kernel
/-- One place upstream of a device, then `n`. -/
theorem upN_up (l : Fin 4) (n : ℕ) (c : Dev nD) : upN l n (upD l c) = upN l (n + 1) c := (Function.iterate_succ_apply _ _ _).symm

/-- A sum along a whole turn of the ring is the sum over the devices. -/
theorem sum_ring {M : Type*} [AddCommMonoid M] (l : Fin 4) (c : Dev nD) (f : Dev nD → M) :
    ∑ s ∈ Finset.range 16, f (upN l s c) = ∑ d : Dev nD, f d := by
  rw [← Fin.sum_univ_eq_sum_range (fun s => f (upN l s c)) 16]
  have hb : Function.Bijective (fun s : Fin 16 => (upN l s.val c : Fin 16)) :=
    Finite.injective_iff_bijective.mp fun s s' h => upN_inj l c s s' h
  exact hb.sum_comp f

/-! ## Where the chunks lie -/

/-- A lane starts from its upstream neighbour's rows, -/
theorem seedOff_eq : ∀ (l : Fin 4) (c : Dev nD), seedOff l c 0 = 256 * (upN l 1 c).val ∧ seedOff l c 1 = 0 := by decide +kernel
/-- and at step `t` multiplies the rows of the device `t + 2` places upstream. -/
theorem stepOff_eq : ∀ (l : Fin 4) (t : Fin 15) (c : Dev nD), stepOff l t.val c 0 = 256 * (upN l (t.val + 2) c).val ∧ stepOff l t.val c 1 = 0 := by decide +kernel

/-- Row `i` of device `q`'s rows. -/
def rowOf (q : Dev nD) (i : Fin 256) : Fin 4096 := ⟨256 * q.val + i.val, by have h : q.val < 16 := q.isLt; omega⟩
/-- Column `j` of a lane's columns. -/
def colOf (l : Fin 4) (j : Fin 2048) : Fin 8192 := ⟨2048 * l.val + j.val, by omega⟩

/-! ## Reads -/

variable {F : FTy → Type} [FloatOps F]

section Reads

variable (m : (ℓ : Loc nD τ sig) → Buf (Elt F) ℓ)

omit [FloatOps F] in
/-- The staged columns of x are the array's. -/
theorem xstg_eq (c : Dev nD) : xstg m c = m (c.tc.loc main_arg0) :=
  Memref.read_access_unit_zero (Elt F) main_arg0 (funext fun a => by fin_cases a <;> decide) (fun a => by fin_cases a <;> decide) _
omit [FloatOps F] in
/-- The staged rows of w are the array's. -/
theorem wstg_eq (c : Dev nD) : wstg m c = m (c.tc.loc main_arg1) :=
  Memref.read_access_unit_zero (Elt F) main_arg1 (funext fun a => by fin_cases a <;> decide) (fun a => by fin_cases a <;> decide) _
omit [FloatOps F] in
/-- The staged scale of x is the array's, -/
theorem sxstg_eq (c : Dev nD) : sxstg m c = m (c.tc.loc main_arg2) :=
  Memref.read_access_unit_zero (Elt F) main_arg2 (funext fun a => by fin_cases a <;> decide) (fun a => by fin_cases a <;> decide) _
omit [FloatOps F] in
/-- and the staged scale of w. -/
theorem systg_eq (c : Dev nD) : systg m c = m (c.tc.loc main_arg3) :=
  Memref.read_access_unit_zero (Elt F) main_arg3 (funext fun a => by fin_cases a <;> decide) (fun a => by fin_cases a <;> decide) _

omit [FloatOps F] in
/-- An element of the chunk a lane starts from. -/
theorem seedX_apply (l : Fin 4) (c : Dev nD) (i k : Fin 256) : seedX m l c (ix2 i k) = m (c.tc.loc main_arg0) (ix2 (rowOf (upN l 1 c) i) k) := by
  unfold seedX
  rw [xstg_eq]
  refine congrArg (m (c.tc.loc main_arg0)) (funext fun a => Fin.ext ?_)
  match a with
  | ⟨0, _⟩ => show seedOff l c 0 + 1 * i.val = 256 * (upN l 1 c).val + i.val; rw [(seedOff_eq l c).1]; omega
  | ⟨1, _⟩ => show seedOff l c 1 + 1 * k.val = k.val; rw [(seedOff_eq l c).2]; omega

omit [FloatOps F] in
/-- An element of the chunk of a step. -/
theorem stepX_apply (l : Fin 4) (t : Fin 15) (c : Dev nD) (i k : Fin 256) :
    stepX m l t c (ix2 i k) = m (c.tc.loc main_arg0) (ix2 (rowOf (upN l (t.val + 2) c) i) k) := by
  unfold stepX
  rw [xstg_eq]
  refine congrArg (m (c.tc.loc main_arg0)) (funext fun a => Fin.ext ?_)
  match a with
  | ⟨0, _⟩ => show stepOff l t.val c 0 + 1 * i.val = 256 * (upN l (t.val + 2) c).val + i.val; rw [(stepOff_eq l t c).1]; omega
  | ⟨1, _⟩ => show stepOff l t.val c 1 + 1 * k.val = k.val; rw [(stepOff_eq l t c).2]; omega

/-- The launch has one point. -/
theorem one_point (t : Fin cfg0.N) : t = t0_0 := Fin.ext (by
  have hN : cfg0.grid.N = 1 := N_0
  exact Nat.lt_one_iff.mp (hN ▸ t.isLt))

/-- The run leaves the result array at the body's result: its one point writes the whole array back. -/
theorem final_out (c : Dev nD) : (dats m 0 c).arrAt 4 cfg0.N = outAt m c := by
  have h := (dats m 0 c).read_blk_arrAt_eq_flushed 4 (fun t t' _ _ hne => absurd ((one_point t).trans (one_point t').symm) hne) cfg0.N t0_0 t0_0.isLt (by rfl)
  exact ((Memref.read_access_unit_zero (Elt F) main_v1 (funext fun a => by fin_cases a <;> decide) (fun a => by fin_cases a <;> decide) _).symm.trans h)

end Reads

/-! ## Over the extended reals -/

section AtIdeal

variable (m : (ℓ : Loc nD τ sig) → Buf (Elt Ideal) ℓ)

/-- The kernel's product is the plain one of rows with columns. -/
theorem dot_plain : dot_S256x256_S256x2048_S256x2048_1_0_0_1_n_n = DotDims.plain 256 256 2048 := rfl

/-- An element of the product of a chunk with a lane's weights. -/
theorem prod_apply (v : Vec Ideal S256x256 .fp8e4m3) (u : Vec Ideal S256x2048 .bf16) (i : Fin 256) (j : Fin 2048) :
    k0_pay10 v u (ix2 i j) = ∑ k : Fin 256, (v (ix2 i k) * u (ix2 k j) : EReal) := by
  unfold k0_pay10
  rw [shapeCast_self, shapeCast_self, dot_plain]
  unfold matmul
  rw [Ideal.matmul_plain_apply]
  show Ideal.ofBits .f32 0x00000000#32 + _ = _
  rw [Ideal.ofBits_zero_f32, zero_add]
  rfl

/-- The first sum of a lane is such a product. -/
theorem seed_apply (v : Vec Ideal S256x256 .fp8e4m3) (u : Vec Ideal S256x2048 .bf16) : (flat (F := Ideal) (e := .bf16) (k0_pay5 v u) : S256x2048.Idx → EReal) = k0_pay10 v u := by
  unfold k0_pay5 k0_pay10 flat
  rw [shapeCast_shapeCast, shapeCast_self]
  dsimp only
  rw [shapeCast_self]
  rfl

/-- A later sum adds one. -/
theorem add_apply (a : Vec Ideal S256x2048 .bf16) (b : Vec Ideal S256x2048 .f32) (y : S256x2048.Idx) :
    flat (k0_pay20 (unflat a) b) y = (a y + b y : EReal) := by
  unfold k0_pay20 flat unflat
  rw [shapeCast_shapeCast, shapeCast_shapeCast]
  rfl

/-- The last one is scaled and cut at zero. -/
theorem last_apply (s : Ideal .f32) (a : Vec Ideal S256x2048 .bf16) (b : Vec Ideal S256x2048 .f32) (y : S256x2048.Idx) :
    k0_pay151 s (unflat a) b y = max ((a y + b y) * s : EReal) 0 := by
  unfold k0_pay151 unflat
  rw [shapeCast_shapeCast, maximumf_apply, mulf_apply, addf_apply, broadcast_apply, broadcast_apply]
  show max _ (Ideal.ofBits .f32 0x00000000#32) = _
  rw [Ideal.ofBits_zero_f32]
  rfl

/-- An element of a lane's weights. -/
theorem wcolV_apply (l : Fin 4) (c : Dev nD) (k : Fin 256) (j : Fin 2048) :
    wcolV m l c (ix2 k j) = m (c.tc.loc main_arg1) (ix2 k (colOf l j)) := by
  have h : wbfV m c = m (c.tc.loc main_arg1) := by
    unfold wbfV k0_pay2
    rw [wstg_eq]
    dsimp only
    rw [shapeCast_self, shapeCast_self]
    rfl
  unfold wcolV
  rw [h]
  refine congrArg (m (c.tc.loc main_arg1)) (funext fun a => Fin.ext ?_)
  match a with
  | ⟨0, _⟩ => show 0 + 1 * k.val = k.val; omega
  | ⟨1, _⟩ => show 2048 * l.val + 1 * j.val = 2048 * l.val + j.val; omega

/-- A device's columns of x, -/
def xA (d : Dev nD) : S4096x256.Idx → EReal := m (d.tc.loc main_arg0)
/-- its rows of w, -/
def wA (d : Dev nD) : S256x8192.Idx → EReal := m (d.tc.loc main_arg1)
/-- its scale of x, -/
def sxA (d : Dev nD) : S1.Idx → EReal := m (d.tc.loc main_arg2)
/-- and its scale of w. -/
def swA (d : Dev nD) : S1.Idx → EReal := m (d.tc.loc main_arg3)

/-- Device `d`'s share of an element of the whole product. -/
def share (r : Fin 4096) (q : Fin 8192) (d : Dev nD) : EReal :=
  ∑ k : Fin 256, xA m d (ix2 r k) * wA m d (ix2 k q)

/-- A step's partial product is the device's share of the chunk's elements. -/
theorem partV_apply (l : Fin 4) (t : Fin 15) (c : Dev nD) (i : Fin 256) (j : Fin 2048) :
    partV m l t c (ix2 i j) = share m (rowOf (upN l (t.val + 2) c) i) (colOf l j) c := by
  unfold partV share
  rw [prod_apply]
  exact Finset.sum_congr rfl fun k _ => by rw [stepX_apply, wcolV_apply]; rfl

/-- What a device sends at step `t` is the sum of the shares of the `t + 1` devices the chunk has met. -/
theorem sentV_apply (l : Fin 4) (i : Fin 256) (j : Fin 2048) : ∀ (t : ℕ) (ht : t < 15) (c : Dev nD),
    sentV m l t c (ix2 i j) = ∑ s ∈ Finset.range (t + 1), share m (rowOf (upN l (t + 1) c) i) (colOf l j) (upN l s c)
  | 0, _, c => by
    unfold sentV
    rw [seed_apply, prod_apply, Finset.sum_range_one]
    exact Finset.sum_congr rfl fun k _ => by rw [seedX_apply, wcolV_apply]; rfl
  | t + 1, ht, c => by
    unfold sentV
    rw [add_apply, sentV_apply l i j t (by omega) (upD l c), partV_apply, Finset.sum_range_succ' _ (t + 1)]
    have e : (f15 t).val = t := Nat.mod_eq_of_lt (by omega)
    rw [e, upN_up]
    refine congrArg₂ (· + ·) (Finset.sum_congr rfl fun s _ => by rw [upN_up]) rfl

/-- The product of the scales. -/
def scale (c : Dev nD) : EReal := sxA m c (ix1 0) * swA m c (ix1 0)

/-- It is what the kernel computes from its scalar memory. -/
theorem aV_eq (c : Dev nD) : aV m c = scale m c := by
  unfold aV k0_pay9 scale
  rw [sxstg_eq, systg_eq]
  refine congrArg₂ (fun a b : EReal => a * b) (congrArg (m (c.tc.loc main_arg2)) ?_) (congrArg (m (c.tc.loc main_arg3)) ?_) <;>
    exact funext fun a => Fin.ext (by match a with | ⟨0, _⟩ => rfl)

/-- An element of a lane's columns of the result: all sixteen shares, scaled and cut at zero. -/
theorem outL_apply (l : Fin 4) (c : Dev nD) (i : Fin 256) (j : Fin 2048) :
    outL m l c (ix2 i j) = max ((∑ d : Dev nD, share m (rowOf c i) (colOf l j) d) * scale m c) 0 := by
  unfold outL
  rw [last_apply, aV_eq, sentV_apply m _ _ _ 14 (by decide), partV_apply, upN_up]
  have e16 : upN l ((14 : Fin 15).val + 2) c = c := upN_cycle _ _
  have e16' : upN l (14 + 1 + 1) c = c := upN_cycle _ _
  rw [e16, e16', ← sum_ring l c, Finset.sum_range_succ' _ 15]
  refine congrArg (fun z : EReal => max (z * scale m c) 0) (congrArg₂ (· + ·) (Finset.sum_congr rfl fun s _ => by rw [upN_up]) rfl)

/-- An element of the result. -/
theorem outAt_apply (c : Dev nD) (y : S256x8192.Idx) :
    (outAt m c : S256x8192.Idx → EReal) y = max ((∑ d : Dev nD, share m (rowOf c (y 0)) (y 1) d) * scale m c) 0 := by
  have e : inLane y = ix2 (n0 := 256) (n1 := 2048) (y 0) ⟨(y 1).val % 2048, Nat.mod_lt _ (by decide)⟩ := by
    funext a; match a with | ⟨0, _⟩ => rfl | ⟨1, _⟩ => rfl
  have hc : colOf (laneOf y) ⟨(y 1).val % 2048, Nat.mod_lt _ (by decide)⟩ = y 1 := Fin.ext (Nat.div_add_mod _ _)
  refine (congrArg (outL m (laneOf y) c) e).trans ((outL_apply m _ _ _ _).trans ?_)
  rw [hc]

end AtIdeal

end Cert.LaneProof

end
-- ==== Proof.RefValue.lean ====
/- What the reference computes over the extended reals: the whole product of x and w, scaled and cut at zero. -/
module

public import proofs.«01_k».proof.Proof.Gen.ReferenceIdeal.Value
public import Idealize.ShloMosaic.Lib.ValueIdx
public import Idealize.ShloMosaic.Lib.MatmulPlain

@[expose] public section

set_option maxRecDepth 16384

noncomputable section

namespace Cert.LaneRef

open Cert.ReferenceIdeal Cert.ReferenceIdeal.Gen
open Idealize.ShloMosaic Idealize.ShloMosaic.TcCoe Idealize.SL.Sem
open Idealize.ShloMosaic.ValueIdx
open Idealize.ShloMosaic.Pipeline (Dat)
open scoped BigOperators

/-- The constant offsets of a whole access are zero. -/
theorem zero2 : (![0, 0] : Fin 2 → Nat) = fun _ => 0 := funext fun a => by fin_cases a <;> rfl

/-- A scalar array's one element. -/
def sIdx : S1.Idx := ix1 (0 : Fin 1)

section Runs

variable {F : FTy → Type} [FloatOps F]

/-- The body leaves its payload of the whole staged arrays. -/
theorem out_eq (c : Dev nD) (a0 : Memref sig .tc .vmem S4096x4096 .fp8e4m3) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole)
    (a4 : Memref sig .tc .vmem S4096x8192 .f32) (h4 : a4.IsWhole)
    (x0 : Vec F S4096x4096 .fp8e4m3) (x1 : Vec F S4096x8192 .fp8e5m2) (x2 : Vec F S1 .f32) (x3 : Vec F S1 .f32) :
    out0_A_4 c a0 h0 a1 h1 a2 h2 a3 h3 a4 h4 x0 x1 x2 x3 = k0_pay1 x0 x1 (x2 sIdx) (x3 sIdx) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero zero2]
  have e : ∀ k : S1.Idx, k = sIdx := fun k => funext fun a => Fin.ext (by
    match a with
    | ⟨0, _⟩ => have h : (k 0).val < 1 := (k 0).isLt; show (k 0).val = 0; omega)
  simp only [View.readAt_eq_ld, h0.read_unread, h1.read_unread, h2.read_unread, h3.read_unread, View.ld_unit_zero (S := S4096x4096) zero2, View.ld_unit_zero (S := S4096x8192) zero2]
  have e2 : ∀ k, x2 k = x2 sIdx := fun k => congrArg x2 (e k)
  have e3 : ∀ k, x3 k = x3 sIdx := fun k => congrArg x3 (e k)
  exact congrArg₂ (k0_pay1 x0 x1) (e2 _) (e3 _)

variable (m : (ℓ : Loc nD τ sig) → Buf (Elt F) ℓ)

/-- The reference's result on whole arrays. -/
def result (c : Dev nD) : Buf (Elt F) ((c : Thread nD τ).loc main_v0) :=
  k0_pay1 (m (c.tc.loc main_arg0)) (m (c.tc.loc main_arg1)) (m (c.tc.loc main_arg2) sIdx) (m (c.tc.loc main_arg3) sIdx)

/-- The one point's body leaves it, -/
theorem outsAt_eq (c : Dev nD) (t : Fin cfg0.N) : outsAt0 m c t = result m c := by
  obtain rfl : t = t0_0 := Fin.ext (by have h := t.isLt; have hN : cfg0.grid.N = 1 := N_0; show t.val = 0; exact Nat.lt_one_iff.mp (hN ▸ h))
  unfold outsAt0 result
  rw [out_eq]
  have e0 : iblk m c 0 t0_0 = m (c.tc.loc main_arg0) :=
    Memref.read_access_unit_zero (Elt F) main_arg0 (funext fun a => by fin_cases a <;> decide) (fun a => by fin_cases a <;> decide) _
  have e1 : iblk m c 1 t0_0 = m (c.tc.loc main_arg1) :=
    Memref.read_access_unit_zero (Elt F) main_arg1 (funext fun a => by fin_cases a <;> decide) (fun a => by fin_cases a <;> decide) _
  have e2 : iblk m c 2 t0_0 = m (c.tc.loc main_arg2) :=
    Memref.read_access_unit_zero (Elt F) main_arg2 (funext fun a => by fin_cases a <;> decide) (fun a => by fin_cases a <;> decide) _
  have e3 : iblk m c 3 t0_0 = m (c.tc.loc main_arg3) :=
    Memref.read_access_unit_zero (Elt F) main_arg3 (funext fun a => by fin_cases a <;> decide) (fun a => by fin_cases a <;> decide) _
  rw [e0, e1, e2, e3]

/-- and the run leaves it in the result array. -/
theorem final_out (c : Dev nD) : (dats m 0 c).arrAt 4 cfg0.N = result m c := by
  have h := Value.blocks4 m c t0_0 (by rfl)
  rw [Value.flushed4, outsAt_eq] at h
  exact ((Memref.read_access_unit_zero (Elt F) main_v0 (funext fun a => by fin_cases a <;> decide) (fun a => by fin_cases a <;> decide) _).symm.trans h)

end Runs

section AtIdeal

/-- The reference's product is the plain one of rows with columns. -/
theorem dot_plain : dot_S4096x4096_S4096x8192_S4096x8192_1_0_0_1_n_n = DotDims.plain 4096 4096 8192 := rfl

/-- An element of the reference's payload. -/
theorem pay_apply (x : S4096x4096.Idx → EReal) (w : S4096x8192.Idx → EReal) (a b : EReal) (r : Fin 4096) (q : Fin 8192) :
    (k0_pay1 (F := Ideal) x w a b : S4096x8192.Idx → EReal) (ix2 r q) = max ((∑ k : Fin 4096, x (ix2 r k) * w (ix2 k q)) * (a * b)) 0 := by
  unfold k0_pay1
  rw [maximumf_apply, mulf_apply, broadcast_apply, broadcast_apply, dot_plain]
  unfold matmul
  rw [Ideal.matmul_plain_apply]
  show max ((Ideal.ofBits .f32 0x00000000#32 + _) * _) (Ideal.ofBits .f32 0x00000000#32) = _
  rw [Ideal.ofBits_zero_f32, zero_add]
  rfl

end AtIdeal

end Cert.LaneRef

end
-- ==== Proof.Algebraic.lean ====
/- The kernel's result over the extended reals is the reference's, block by block: the whole contraction is the
   sum over the devices of each device's share. -/
module

public import proofs.«01_k».proof.Defs
public import proofs.«01_k».proof.Proof.Value
public import proofs.«01_k».proof.Proof.RefValue
public import proofs.«01_k».proof.Proof.Frames
public import Idealize.ShloMosaic.Lib.Pipeline.ValueKit.Acc

@[expose] public section

set_option maxRecDepth 16384

noncomputable section

namespace Cert.LaneProof

open Cert.KernelIdeal Cert.KernelIdeal.Gen
open Idealize.ShloMosaic Idealize.ShloMosaic.TcCoe Idealize.SL.Sem
open Idealize.ShloMosaic.ValueIdx
open scoped BigOperators

/-- A sum over the 4096 contracted positions is the sum over sixteen stretches of 256. -/
theorem sum_stretches (g : Fin 4096 → EReal) :
    ∑ K : Fin 4096, g K = ∑ d : Fin 16, ∑ k : Fin 256, g ⟨d.val * 256 + k.val, by omega⟩ := by
  have h := Fin.sum_univ_univ_mul_add 16 256 (fun n => if hn : n < 4096 then g ⟨n, hn⟩ else 0)
  have hl : ∑ K : Fin (16 * 256), (if hn : K.val < 4096 then g ⟨K.val, hn⟩ else 0) = ∑ K : Fin 4096, g K :=
    Finset.sum_congr rfl fun K _ => dif_pos K.isLt
  rw [← hl, ← h]
  exact Finset.sum_congr rfl fun d _ => Finset.sum_congr rfl fun k _ => dif_pos _

section Whole

variable (m : (ℓ : Loc nD τ sig) → Buf (Elt Ideal) ℓ)
variable (X : (⟨2, ![4096, 4096]⟩ : Shape).Idx → EReal) (W : (⟨2, ![4096, 8192]⟩ : Shape).Idx → EReal)

/-- The devices' shares of an element add up to the whole contraction. -/
theorem sum_share (hx : ∀ d : Dev nD, xA m d = Layout.block ⟨2, ![4096, 256]⟩ ⟨2, ![4096, 4096]⟩ 1 16 d X)
    (hw : ∀ d : Dev nD, wA m d = Layout.block ⟨2, ![256, 8192]⟩ ⟨2, ![4096, 8192]⟩ 0 16 d W) (r : Fin 4096) (q : Fin 8192) :
    ∑ d : Dev nD, share m r q d = ∑ K : Fin 4096, X (ix2 r K) * W (ix2 K q) := by
  rw [sum_stretches]
  refine Finset.sum_congr rfl fun d _ => ?_
  unfold share
  refine Finset.sum_congr rfl fun k _ => ?_
  rw [hx d, hw d]
  refine congrArg₂ (fun a b : EReal => a * b) (congrArg X (funext fun a => Fin.ext ?_)) (congrArg W (funext fun a => Fin.ext ?_))
  · match a with
    | ⟨0, _⟩ => rfl
    | ⟨1, _⟩ => rfl
  · match a with
    | ⟨0, _⟩ => rfl
    | ⟨1, _⟩ => rfl

/-- So the kernel's element is the reference's. -/
theorem elem_eq (hx : ∀ d : Dev nD, xA m d = Layout.block ⟨2, ![4096, 256]⟩ ⟨2, ![4096, 4096]⟩ 1 16 d X)
    (hw : ∀ d : Dev nD, wA m d = Layout.block ⟨2, ![256, 8192]⟩ ⟨2, ![4096, 8192]⟩ 0 16 d W) (c : Dev nD) (a b : EReal)
    (ha : sxA m c (ix1 0) = a) (hb : swA m c (ix1 0) = b) (r : Fin 4096) (q : Fin 8192) :
    max ((∑ d : Dev nD, share m r q d) * scale m c) 0 = (Cert.ReferenceIdeal.Gen.k0_pay1 (F := Ideal) X W a b : (⟨2, ![4096, 8192]⟩ : Shape).Idx → EReal) (ix2 r q) := by
  refine Eq.trans ?_ (LaneRef.pay_apply X W a b r q).symm
  rw [sum_share m X W hx hw]
  unfold scale
  rw [ha, hb]

end Whole

/-- Over the extended reals the kernel's devices hold the blocks of the reference's result. -/
theorem algebraic : Cert.algebraic_KernelIdeal_ReferenceIdeal := by
  intro m g m' g' _ hag
  have key : ∀ c : Dev nD, outAt m c = Layout.block ⟨2, ![256, 8192]⟩ ⟨2, ![4096, 8192]⟩ 0 16 c (LaneRef.result m' 0) := by
    intro c
    funext y
    have hx : ∀ d : Dev nD, xA m d = Layout.block ⟨2, ![4096, 256]⟩ ⟨2, ![4096, 4096]⟩ 1 16 d
        (m' (((0 : Dev Cert.ReferenceIdeal.nD).tc : Thread Cert.ReferenceIdeal.nD Cert.ReferenceIdeal.τ).loc Cert.ReferenceIdeal.main_arg0)) := fun d => (hag d).1
    have hw : ∀ d : Dev nD, wA m d = Layout.block ⟨2, ![256, 8192]⟩ ⟨2, ![4096, 8192]⟩ 0 16 d
        (m' (((0 : Dev Cert.ReferenceIdeal.nD).tc : Thread Cert.ReferenceIdeal.nD Cert.ReferenceIdeal.τ).loc Cert.ReferenceIdeal.main_arg1)) := fun d => (hag d).2.1
    refine (outAt_apply m c y).trans ((elem_eq m _ _ hx hw c _ _ (congrFun (hag c).2.2.1 (ix1 0)) (congrFun (hag c).2.2.2 (ix1 0)) _ _).trans ?_)
    refine congrArg (LaneRef.result m' 0) (funext fun a => Fin.ext ?_)
    match a with
    | ⟨0, _⟩ => show 256 * c.val + (y 0).val = c.val * 256 + (y 0).val; omega
    | ⟨1, _⟩ => rfl
  refine ⟨LaneRef.result m' 0, ?_, ?_⟩
  · exact (θ_run defs _ _).mono (fun _ h c => ⟨((h.1 c 4).trans (final_out m c)).trans (key c), args_unchanged m c h.1⟩) (run_main (F := Ideal) m g)
  · exact (θ_run Cert.ReferenceIdeal.defs _ _).mono (fun _ h => ⟨(h 0).1.trans (LaneRef.final_out m' 0), (h 0).2⟩)
      (Cert.ReferenceIdeal.Value.run_blocks (F := Ideal) m' g')

end Cert.LaneProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  LaneProof.frame_kernel, LaneProof.frame_ideal, LaneProof.frame_reference, trivial, LaneProof.algebraic⟩

end Cert.Proof

end
